-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "inv_count" .f32 0x35A72EF8#32 ((1 / 802817 : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts) (hPre_drawn : Cert.Pre_drawn.Facts),
    quiescent_Kernel (hKernel := hKernel) (hPre_in_range := hPre_in_range)
    ∧ quiescent_KernelIdeal (hKernelIdeal := hKernelIdeal) (hPre_in_range := hPre_in_range)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S819200 : Shape := ⟨1, ![819200]⟩
abbrev S16384 : Shape := ⟨1, ![16384]⟩
abbrev S1000000x128 : Shape := ⟨2, ![1000000, 128]⟩
abbrev S100x128 : Shape := ⟨2, ![100, 128]⟩
abbrev S100 : Shape := ⟨1, ![100]⟩
abbrev S100x100 : Shape := ⟨2, ![100, 100]⟩
abbrev S6x100 : Shape := ⟨2, ![6, 100]⟩
abbrev S6 : Shape := ⟨1, ![6]⟩
abbrev S_ : Shape := ⟨0, ![]⟩

class Facts : Prop where
  bcast_S_S819200 : S_.BroadcastsInDim S819200 (![] : Fin 0 → Fin S819200.rank)

variable [Facts]

def fn {F : FTy → Type} [FloatOps F] (main_arg0 : IVec S819200 32) (main_arg1 : IVec S16384 32) (main_arg2 : FVec F S1000000x128 .f32) (main_arg3 : FVec F S100x128 .f32) (main_arg4 : FVec F S100 .f32) (main_arg5 : FVec F S100x100 .f32) (main_arg6 : FVec F S100 .f32) (main_arg7 : FVec F S6x100 .f32) (main_arg8 : FVec F S6 .f32) : IVec S819200 1 × IVec S16384 1 :=
  let main_c : IVec S_ 32 := constantI S_ 32 0#32
  let main_v0 : IVec S819200 32 := broadcastInDim S819200 ![] bcast_S_S819200 main_c
  let main_v1 : IVec S819200 1 := cmpi .sge main_arg0 main_v0
  let main_c_0 : IVec S_ 32 := constantI S_ 32 1000000#32
  let main_v2 : IVec S819200 32 := broadcastInDim S819200 ![] bcast_S_S819200 main_c_0
  let main_v3 : IVec S819200 1 := cmpi .slt main_arg0 main_v2
  let main_v4 : IVec S819200 1 := andi main_v1 main_v3
  let main_v5 : IVec S16384 32 := iotaInDim S16384 32 0
  let main_v6 : IVec S16384 1 := cmpi .eq main_arg1 main_v5
  (main_v4, main_v6)
-- ==== Pre_in_range.lean ====
abbrev S819200 : Shape := ⟨1, ![819200]⟩
abbrev S16384 : Shape := ⟨1, ![16384]⟩
abbrev S1000000x128 : Shape := ⟨2, ![1000000, 128]⟩
abbrev S100x128 : Shape := ⟨2, ![100, 128]⟩
abbrev S100 : Shape := ⟨1, ![100]⟩
abbrev S100x100 : Shape := ⟨2, ![100, 100]⟩
abbrev S6x100 : Shape := ⟨2, ![6, 100]⟩
abbrev S6 : Shape := ⟨1, ![6]⟩
abbrev S_ : Shape := ⟨0, ![]⟩

class Facts : Prop where
  bcast_S_S819200 : S_.BroadcastsInDim S819200 (![] : Fin 0 → Fin S819200.rank)

variable [Facts]

def fn {F : FTy → Type} [FloatOps F] (main_arg0 : IVec S819200 32) (main_arg1 : IVec S16384 32) (main_arg2 : FVec F S1000000x128 .f32) (main_arg3 : FVec F S100x128 .f32) (main_arg4 : FVec F S100 .f32) (main_arg5 : FVec F S100x100 .f32) (main_arg6 : FVec F S100 .f32) (main_arg7 : FVec F S6x100 .f32) (main_arg8 : FVec F S6 .f32) : IVec S819200 1 :=
  let main_c : IVec S_ 32 := constantI S_ 32 0#32
  let main_v0 : IVec S819200 32 := broadcastInDim S819200 ![] bcast_S_S819200 main_c
  let main_v1 : IVec S819200 1 := cmpi .sge main_arg0 main_v0
  let main_c_0 : IVec S_ 32 := constantI S_ 32 1000000#32
  let main_v2 : IVec S819200 32 := broadcastInDim S819200 ![] bcast_S_S819200 main_c_0
  let main_v3 : IVec S819200 1 := cmpi .slt main_arg0 main_v2
  let main_v4 : IVec S819200 1 := andi main_v1 main_v3
  main_v4
-- ==== Kernel.lean ====
abbrev S819200 : Shape := ⟨1, ![819200]⟩
abbrev S16384 : Shape := ⟨1, ![16384]⟩
abbrev S1000000x128 : Shape := ⟨2, ![1000000, 128]⟩
abbrev S100x128 : Shape := ⟨2, ![100, 128]⟩
abbrev S100 : Shape := ⟨1, ![100]⟩
abbrev S100x100 : Shape := ⟨2, ![100, 100]⟩
abbrev S6x100 : Shape := ⟨2, ![6, 100]⟩
abbrev S6 : Shape := ⟨1, ![6]⟩
abbrev S16384x128 : Shape := ⟨2, ![16384, 128]⟩
abbrev S512 : Shape := ⟨1, ![512]⟩
abbrev S128x128 : Shape := ⟨2, ![128, 128]⟩
abbrev S_ : Shape := ⟨0, ![]⟩
abbrev S128 : Shape := ⟨1, ![128]⟩
abbrev S32x128 : Shape := ⟨2, ![32, 128]⟩
abbrev S25088 : Shape := ⟨1, ![25088]⟩
abbrev S16 : Shape := ⟨1, ![16]⟩
abbrev S1x16 : Shape := ⟨2, ![1, 16]⟩
abbrev S1x128 : Shape := ⟨2, ![1, 128]⟩
abbrev S1x100 : Shape := ⟨2, ![1, 100]⟩
abbrev S6x1 : Shape := ⟨2, ![6, 1]⟩
abbrev S6x16384 : Shape := ⟨2, ![6, 16384]⟩
abbrev S16384x100 : Shape := ⟨2, ![16384, 100]⟩
abbrev S1x6 : Shape := ⟨2, ![1, 6]⟩
abbrev S16384x6 : Shape := ⟨2, ![16384, 6]⟩

abbrev nBuf : Table → Nat
  | .hbm => 22
  | .local .tc .vmem => 17
  | .local .scVector .vmem => 13
  | _ => 0

abbrev bufTy : (tb : Table) → Fin (nBuf tb) → BufTy
  | .hbm, ⟨0, _⟩ => ⟨S819200, .i32⟩
  | .hbm, ⟨1, _⟩ => ⟨S16384, .i32⟩
  | .hbm, ⟨2, _⟩ => ⟨S1000000x128, .f32⟩
  | .hbm, ⟨3, _⟩ => ⟨S100x128, .f32⟩
  | .hbm, ⟨4, _⟩ => ⟨S100, .f32⟩
  | .hbm, ⟨5, _⟩ => ⟨S100x100, .f32⟩
  | .hbm, ⟨6, _⟩ => ⟨S100, .f32⟩
  | .hbm, ⟨7, _⟩ => ⟨S6x100, .f32⟩
  | .hbm, ⟨8, _⟩ => ⟨S6, .f32⟩
  | .hbm, ⟨9, _⟩ => ⟨S16384x128, .f32⟩
  | .hbm, ⟨10, _⟩ => ⟨S32x128, .f32⟩
  | .hbm, ⟨11, _⟩ => ⟨S1x100, .f32⟩
  | .hbm, ⟨12, _⟩ => ⟨S1x100, .f32⟩
  | .hbm, ⟨13, _⟩ => ⟨S6x1, .f32⟩
  | .hbm, ⟨14, _⟩ => ⟨S6x16384, .f32⟩
  | .hbm, ⟨15, _⟩ => ⟨S1x128, .f32⟩
  | .hbm, ⟨16, _⟩ => ⟨S1x6, .f32⟩
  | .hbm, ⟨17, _⟩ => ⟨S1x6, .f32⟩
  | .hbm, ⟨18, _⟩ => ⟨S16384x6, .f32⟩
  | .hbm, ⟨19, _⟩ => ⟨S_, .i32⟩
  | .hbm, ⟨20, _⟩ => ⟨S_, .i32⟩
  | .hbm, ⟨21, _⟩ => ⟨S16384x6, .f32⟩
  | .local .tc .vmem, ⟨0, _⟩ => ⟨S16384x128, .f32⟩
  | .local .tc .vmem, ⟨1, _⟩ => ⟨S100x128, .f32⟩
  | .local .tc .vmem, ⟨2, _⟩ => ⟨S1x100, .f32⟩
  | .local .tc .vmem, ⟨3, _⟩ => ⟨S100x100, .f32⟩
  | .local .tc .vmem, ⟨4, _⟩ => ⟨S1x100, .f32⟩
  | .local .tc .vmem, ⟨5, _⟩ => ⟨S6x100, .f32⟩
  | .local .tc .vmem, ⟨6, _⟩ => ⟨S6x1, .f32⟩
  | .local .tc .vmem, ⟨7, _⟩ => ⟨S6x16384, .f32⟩
  | .local .tc .vmem, ⟨8, _⟩ => ⟨S32x128, .f32⟩
  | .local .tc .vmem, ⟨9, _⟩ => ⟨S1x128, .f32⟩
  | .local .tc .vmem, ⟨10, _⟩ => ⟨S100x128, .f32⟩
  | .local .tc .vmem, ⟨11, _⟩ => ⟨S1x100, .f32⟩
  | .local .tc .vmem, ⟨12, _⟩ => ⟨S100x100, .f32⟩
  | .local .tc .vmem, ⟨13, _⟩ => ⟨S1x100, .f32⟩
  | .local .tc .vmem, ⟨14, _⟩ => ⟨S6x100, .f32⟩
  | .local .tc .vmem, ⟨15, _⟩ => ⟨S1x6, .f32⟩
  | .local .tc .vmem, ⟨16, _⟩ => ⟨S1x6, .f32⟩
  | .local .scVector .vmem, ⟨0, _⟩ => ⟨S512, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S128x128, .f32⟩
  | .local .scVector .vmem, ⟨6, _⟩ => ⟨S25088, .i32⟩
  | .local .scVector .vmem, ⟨7, _⟩ => ⟨S128x128, .f32⟩
  | .local .scVector .vmem, ⟨8, _⟩ => ⟨S128x128, .f32⟩
  | .local .scVector .vmem, ⟨9, _⟩ => ⟨S128x128, .f32⟩
  | .local .scVector .vmem, ⟨10, _⟩ => ⟨S128x128, .f32⟩
  | .local .scVector .vmem, ⟨11, _⟩ => ⟨S128x128, .f32⟩
  | .local .scVector .vmem, ⟨12, _⟩ => ⟨S128, .f32⟩
  | _, _ => ⟨S819200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 34 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTables nBuf rfl bufTy 4 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_c_0 : Ref sig .tc := ⟨.hbm, 20, rfl⟩
abbrev main_v10 : Ref sig .tc := ⟨.hbm, 21, rfl⟩
abbrev main_arg0_scv : Ref sig .scVector := ⟨.hbm, 0, rfl⟩
abbrev main_arg2_scv : Ref sig .scVector := ⟨.hbm, 2, rfl⟩
abbrev main_v0_scv : Ref sig .scVector := ⟨.hbm, 9, rfl⟩
abbrev main_v1_scv : Ref sig .scVector := ⟨.hbm, 10, rfl⟩
abbrev cc2_stg0_0 : Ref sig .tc := ⟨.vmem, 0, rfl⟩
abbrev cc2_stg1_0 : Ref sig .tc := ⟨.vmem, 1, rfl⟩
abbrev cc2_stg2_0 : Ref sig .tc := ⟨.vmem, 2, rfl⟩
abbrev cc2_stg3_0 : Ref sig .tc := ⟨.vmem, 3, rfl⟩
abbrev cc2_stg4_0 : Ref sig .tc := ⟨.vmem, 4, rfl⟩
abbrev cc2_stg5_0 : Ref sig .tc := ⟨.vmem, 5, rfl⟩
abbrev cc2_stg6_0 : Ref sig .tc := ⟨.vmem, 6, rfl⟩
abbrev cc2_stg7_0 : Ref sig .tc := ⟨.vmem, 7, rfl⟩
abbrev cc3_stg0_0 : Ref sig .tc := ⟨.vmem, 8, rfl⟩
abbrev cc3_stg1_0 : Ref sig .tc := ⟨.vmem, 9, rfl⟩
abbrev cc3_stg2_0 : Ref sig .tc := ⟨.vmem, 10, rfl⟩
abbrev cc3_stg3_0 : Ref sig .tc := ⟨.vmem, 11, rfl⟩
abbrev cc3_stg4_0 : Ref sig .tc := ⟨.vmem, 12, rfl⟩
abbrev cc3_stg5_0 : Ref sig .tc := ⟨.vmem, 13, rfl⟩
abbrev cc3_stg6_0 : Ref sig .tc := ⟨.vmem, 14, rfl⟩
abbrev cc3_stg7_0 : Ref sig .tc := ⟨.vmem, 15, rfl⟩
abbrev cc3_stg8_0 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_scratch0 : Ref sig .scVector := ⟨.vmem, 6, rfl⟩
abbrev cc1_scratch1 : Ref sig .scVector := ⟨.vmem, 7, rfl⟩
abbrev cc1_scratch2 : Ref sig .scVector := ⟨.vmem, 8, rfl⟩
abbrev cc1_scratch3 : Ref sig .scVector := ⟨.vmem, 9, rfl⟩
abbrev cc1_scratch4 : Ref sig .scVector := ⟨.vmem, 10, rfl⟩
abbrev cc1_scratch5 : Ref sig .scVector := ⟨.vmem, 11, rfl⟩
abbrev cc1_scratch6 : Ref sig .scVector := ⟨.vmem, 12, rfl⟩
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc3_sem0_0 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem6_0 : DmaSem sig := 31
abbrev cc3_sem7_0 : DmaSem sig := 32
abbrev cc3_sem8_0 : DmaSem sig := 33
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
def k0_off2 (i : grid0.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v13 : BitVec 32 := Scalar.addi v2 c0_i32_11
  let c0_i32_24_r1 : BitVec 32 := 0#32
  ![v13.toNat, 0]
abbrev grid1 : Pipeline.Grid := ⟨2, ![2, 16], ![false, false]⟩

def k1_off1 (i : grid1.Coords) : Fin 1 → Nat :=
  let c16384_i32 : BitVec 32 := 16384#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25088_i32 : BitVec 32 := 25088#32
  let v2 : BitVec 32 := Scalar.muli v1 c25088_i32
  let v3 : BitVec 32 := Scalar.addi c16384_i32 v2
  ![v3.toNat]
@[reducible] def k1_t1_loop : Scf.Loop 32 :=
  let c0_i32_17 : BitVec 32 := 0#32
  let c39_i32 : BitVec 32 := 39#32
  let v22 : BitVec 32 := Scalar.addi c0_i32_17 c39_i32
  let c1_i32 : BitVec 32 := 1#32
  ⟨c0_i32_17, v22, c1_i32⟩
def k1_off2 (k1_t1 : Fin k1_t1_loop.trips) (c0_i32_24 : BitVec 32) : Fin 1 → Nat :=
  let c5_i32 : BitVec 32 := 5#32
  let c0_i32_17 : BitVec 32 := 0#32
  let c1_i32 : BitVec 32 := 1#32
  let arg18 : BitVec 32 := Scf.iv c0_i32_17 c1_i32 k1_t1
  let v52 : BitVec 32 := Scalar.muli c5_i32 arg18
  let v53 : BitVec 32 := Scalar.addi v52 c0_i32_24
  let c128_i32_25 : BitVec 32 := 128#32
  let v54 : BitVec 32 := Scalar.muli v53 c128_i32_25
  ![v54.toNat]
@[reducible] def k1_t2_loop : Scf.Loop 32 :=
  let c0_i32_28 : BitVec 32 := 0#32
  let c16_i32_29 : BitVec 32 := 16#32
  let v57 : BitVec 32 := Scalar.addi c0_i32_28 c16_i32_29
  let c1_i32_30 : BitVec 32 := 1#32
  ⟨c0_i32_28, v57, c1_i32_30⟩
def k1_off3 (k1_t2 : Fin k1_t2_loop.trips) (c0_i32_81 : BitVec 32) : Fin 2 → Nat :=
  let c0_i32_28 : BitVec 32 := 0#32
  let c1_i32_30 : BitVec 32 := 1#32
  let arg27 : BitVec 32 := Scf.iv c0_i32_28 c1_i32_30 k1_t2
  let c8_i32 : BitVec 32 := 8#32
  let v108 : BitVec 32 := Scalar.muli arg27 c8_i32
  let v109 : BitVec 32 := Scalar.addi v108 c0_i32_81
  let v110 : Index := Scalar.indexCast v109
  let c0_82 : Index := 0#32
  ![v110.toNat, 0]
def k1_off4 (k1_t2 : Fin k1_t2_loop.trips) (c0_i32_83 : BitVec 32) : Fin 2 → Nat :=
  let c0_i32_28 : BitVec 32 := 0#32
  let c1_i32_30 : BitVec 32 := 1#32
  let arg27 : BitVec 32 := Scf.iv c0_i32_28 c1_i32_30 k1_t2
  let c8_i32 : BitVec 32 := 8#32
  let v108 : BitVec 32 := Scalar.muli arg27 c8_i32
  let v114 : BitVec 32 := Scalar.addi v108 c0_i32_83
  let v115 : Index := Scalar.indexCast v114
  let c16_84 : Index := 16#32
  ![v115.toNat, 16]
def k1_off5 (k1_t2 : Fin k1_t2_loop.trips) (c0_i32_85 : BitVec 32) : Fin 2 → Nat :=
  let c0_i32_28 : BitVec 32 := 0#32
  let c1_i32_30 : BitVec 32 := 1#32
  let arg27 : BitVec 32 := Scf.iv c0_i32_28 c1_i32_30 k1_t2
  let c8_i32 : BitVec 32 := 8#32
  let v108 : BitVec 32 := Scalar.muli arg27 c8_i32
  let v119 : BitVec 32 := Scalar.addi v108 c0_i32_85
  let v120 : Index := Scalar.indexCast v119
  let c32_86 : Index := 32#32
  ![v120.toNat, 32]
def k1_off6 (k1_t2 : Fin k1_t2_loop.trips) (c0_i32_87 : BitVec 32) : Fin 2 → Nat :=
  let c0_i32_28 : BitVec 32 := 0#32
  let c1_i32_30 : BitVec 32 := 1#32
  let arg27 : BitVec 32 := Scf.iv c0_i32_28 c1_i32_30 k1_t2
  let c8_i32 : BitVec 32 := 8#32
  let v108 : BitVec 32 := Scalar.muli arg27 c8_i32
  let v124 : BitVec 32 := Scalar.addi v108 c0_i32_87
  let v125 : Index := Scalar.indexCast v124
  let c48_88 : Index := 48#32
  ![v125.toNat, 48]
def k1_off7 (k1_t2 : Fin k1_t2_loop.trips) (c0_i32_89 : BitVec 32) : Fin 2 → Nat :=
  let c0_i32_28 : BitVec 32 := 0#32
  let c1_i32_30 : BitVec 32 := 1#32
  let arg27 : BitVec 32 := Scf.iv c0_i32_28 c1_i32_30 k1_t2
  let c8_i32 : BitVec 32 := 8#32
  let v108 : BitVec 32 := Scalar.muli arg27 c8_i32
  let v129 : BitVec 32 := Scalar.addi v108 c0_i32_89
  let v130 : Index := Scalar.indexCast v129
  let c64_90 : Index := 64#32
  ![v130.toNat, 64]
def k1_off8 (k1_t2 : Fin k1_t2_loop.trips) (c0_i32_91 : BitVec 32) : Fin 2 → Nat :=
  let c0_i32_28 : BitVec 32 := 0#32
  let c1_i32_30 : BitVec 32 := 1#32
  let arg27 : BitVec 32 := Scf.iv c0_i32_28 c1_i32_30 k1_t2
  let c8_i32 : BitVec 32 := 8#32
  let v108 : BitVec 32 := Scalar.muli arg27 c8_i32
  let v134 : BitVec 32 := Scalar.addi v108 c0_i32_91
  let v135 : Index := Scalar.indexCast v134
  let c80_92 : Index := 80#32
  ![v135.toNat, 80]
def k1_off9 (k1_t2 : Fin k1_t2_loop.trips) (c0_i32_93 : BitVec 32) : Fin 2 → Nat :=
  let c0_i32_28 : BitVec 32 := 0#32
  let c1_i32_30 : BitVec 32 := 1#32
  let arg27 : BitVec 32 := Scf.iv c0_i32_28 c1_i32_30 k1_t2
  let c8_i32 : BitVec 32 := 8#32
  let v108 : BitVec 32 := Scalar.muli arg27 c8_i32
  let v139 : BitVec 32 := Scalar.addi v108 c0_i32_93
  let v140 : Index := Scalar.indexCast v139
  let c96_94 : Index := 96#32
  ![v140.toNat, 96]
def k1_off10 (k1_t2 : Fin k1_t2_loop.trips) (c0_i32_95 : BitVec 32) : Fin 2 → Nat :=
  let c0_i32_28 : BitVec 32 := 0#32
  let c1_i32_30 : BitVec 32 := 1#32
  let arg27 : BitVec 32 := Scf.iv c0_i32_28 c1_i32_30 k1_t2
  let c8_i32 : BitVec 32 := 8#32
  let v108 : BitVec 32 := Scalar.muli arg27 c8_i32
  let v144 : BitVec 32 := Scalar.addi v108 c0_i32_95
  let v145 : Index := Scalar.indexCast v144
  let c112_96 : Index := 112#32
  ![v145.toNat, 112]
def k1_cond1 (k1_t1 : Fin k1_t1_loop.trips) : BitVec 1 :=
  let c5_i32 : BitVec 32 := 5#32
  let c0_i32_17 : BitVec 32 := 0#32
  let c1_i32 : BitVec 32 := 1#32
  let arg18 : BitVec 32 := Scf.iv c0_i32_17 c1_i32 k1_t1
  let v52 : BitVec 32 := Scalar.muli c5_i32 arg18
  let c0_i32_32 : BitVec 32 := 0#32
  let v59 : BitVec 32 := Scalar.addi v52 c0_i32_32
  let c5_i32_33 : BitVec 32 := 5#32
  let v60 : BitVec 32 := Scalar.addi v59 c5_i32_33
  let c196_i32 : BitVec 32 := 196#32
  let v61 : BitVec 1 := Scalar.cmpi .slt v60 c196_i32
  let v62 : BitVec 32 := Scalar.extui v61
  let c0_i32_34 : BitVec 32 := 0#32
  let v63 : BitVec 1 := Scalar.cmpi .ne v62 c0_i32_34
  v63

def k1_off11 (k1_t1 : Fin k1_t1_loop.trips) : Fin 1 → Nat :=
  let c5_i32 : BitVec 32 := 5#32
  let c0_i32_17 : BitVec 32 := 0#32
  let c1_i32 : BitVec 32 := 1#32
  let arg18 : BitVec 32 := Scf.iv c0_i32_17 c1_i32 k1_t1
  let v52 : BitVec 32 := Scalar.muli c5_i32 arg18
  let c0_i32_81 : BitVec 32 := 0#32
  let v108 : BitVec 32 := Scalar.addi v52 c0_i32_81
  let c5_i32_82 : BitVec 32 := 5#32
  let v109 : BitVec 32 := Scalar.addi v108 c5_i32_82
  let c128_i32_83 : BitVec 32 := 128#32
  let v110 : BitVec 32 := Scalar.muli v109 c128_i32_83
  ![v110.toNat]
@[reducible] def k1_t3_loop : Scf.Loop 32 :=
  let c0_i32_39 : BitVec 32 := 0#32
  let c16_i32_40 : BitVec 32 := 16#32
  let v68 : BitVec 32 := Scalar.addi c0_i32_39 c16_i32_40
  let c1_i32_41 : BitVec 32 := 1#32
  ⟨c0_i32_39, v68, c1_i32_41⟩
def k1_off12 (k1_t3 : Fin k1_t3_loop.trips) (c0_i32_81 : BitVec 32) : Fin 2 → Nat :=
  let c0_i32_39 : BitVec 32 := 0#32
  let c1_i32_41 : BitVec 32 := 1#32
  let arg27 : BitVec 32 := Scf.iv c0_i32_39 c1_i32_41 k1_t3
  let c8_i32 : BitVec 32 := 8#32
  let v108 : BitVec 32 := Scalar.muli arg27 c8_i32
  let v109 : BitVec 32 := Scalar.addi v108 c0_i32_81
  let v110 : Index := Scalar.indexCast v109
  let c0_82 : Index := 0#32
  ![v110.toNat, 0]
def k1_off13 (k1_t3 : Fin k1_t3_loop.trips) (c0_i32_83 : BitVec 32) : Fin 2 → Nat :=
  let c0_i32_39 : BitVec 32 := 0#32
  let c1_i32_41 : BitVec 32 := 1#32
  let arg27 : BitVec 32 := Scf.iv c0_i32_39 c1_i32_41 k1_t3
  let c8_i32 : BitVec 32 := 8#32
  let v108 : BitVec 32 := Scalar.muli arg27 c8_i32
  let v114 : BitVec 32 := Scalar.addi v108 c0_i32_83
  let v115 : Index := Scalar.indexCast v114
  let c16_84 : Index := 16#32
  ![v115.toNat, 16]
def k1_off14 (k1_t3 : Fin k1_t3_loop.trips) (c0_i32_85 : BitVec 32) : Fin 2 → Nat :=
  let c0_i32_39 : BitVec 32 := 0#32
  let c1_i32_41 : BitVec 32 := 1#32
  let arg27 : BitVec 32 := Scf.iv c0_i32_39 c1_i32_41 k1_t3
  let c8_i32 : BitVec 32 := 8#32
  let v108 : BitVec 32 := Scalar.muli arg27 c8_i32
  let v119 : BitVec 32 := Scalar.addi v108 c0_i32_85
  let v120 : Index := Scalar.indexCast v119
  let c32_86 : Index := 32#32
  ![v120.toNat, 32]
def k1_off15 (k1_t3 : Fin k1_t3_loop.trips) (c0_i32_87 : BitVec 32) : Fin 2 → Nat :=
  let c0_i32_39 : BitVec 32 := 0#32
  let c1_i32_41 : BitVec 32 := 1#32
  let arg27 : BitVec 32 := Scf.iv c0_i32_39 c1_i32_41 k1_t3
  let c8_i32 : BitVec 32 := 8#32
  let v108 : BitVec 32 := Scalar.muli arg27 c8_i32
  let v124 : BitVec 32 := Scalar.addi v108 c0_i32_87
  let v125 : Index := Scalar.indexCast v124
  let c48_88 : Index := 48#32
  ![v125.toNat, 48]
def k1_off16 (k1_t3 : Fin k1_t3_loop.trips) (c0_i32_89 : BitVec 32) : Fin 2 → Nat :=
  let c0_i32_39 : BitVec 32 := 0#32
  let c1_i32_41 : BitVec 32 := 1#32
  let arg27 : BitVec 32 := Scf.iv c0_i32_39 c1_i32_41 k1_t3
  let c8_i32 : BitVec 32 := 8#32
  let v108 : BitVec 32 := Scalar.muli arg27 c8_i32
  let v129 : BitVec 32 := Scalar.addi v108 c0_i32_89
  let v130 : Index := Scalar.indexCast v129
  let c64_90 : Index := 64#32
  ![v130.toNat, 64]
def k1_off17 (k1_t3 : Fin k1_t3_loop.trips) (c0_i32_91 : BitVec 32) : Fin 2 → Nat :=
  let c0_i32_39 : BitVec 32 := 0#32
  let c1_i32_41 : BitVec 32 := 1#32
  let arg27 : BitVec 32 := Scf.iv c0_i32_39 c1_i32_41 k1_t3
  let c8_i32 : BitVec 32 := 8#32
  let v108 : BitVec 32 := Scalar.muli arg27 c8_i32
  let v134 : BitVec 32 := Scalar.addi v108 c0_i32_91
  let v135 : Index := Scalar.indexCast v134
  let c80_92 : Index := 80#32
  ![v135.toNat, 80]
def k1_off18 (k1_t3 : Fin k1_t3_loop.trips) (c0_i32_93 : BitVec 32) : Fin 2 → Nat :=
  let c0_i32_39 : BitVec 32 := 0#32
  let c1_i32_41 : BitVec 32 := 1#32
  let arg27 : BitVec 32 := Scf.iv c0_i32_39 c1_i32_41 k1_t3
  let c8_i32 : BitVec 32 := 8#32
  let v108 : BitVec 32 := Scalar.muli arg27 c8_i32
  let v139 : BitVec 32 := Scalar.addi v108 c0_i32_93
  let v140 : Index := Scalar.indexCast v139
  let c96_94 : Index := 96#32
  ![v140.toNat, 96]
def k1_off19 (k1_t3 : Fin k1_t3_loop.trips) (c0_i32_95 : BitVec 32) : Fin 2 → Nat :=
  let c0_i32_39 : BitVec 32 := 0#32
  let c1_i32_41 : BitVec 32 := 1#32
  let arg27 : BitVec 32 := Scf.iv c0_i32_39 c1_i32_41 k1_t3
  let c8_i32 : BitVec 32 := 8#32
  let v108 : BitVec 32 := Scalar.muli arg27 c8_i32
  let v144 : BitVec 32 := Scalar.addi v108 c0_i32_95
  let v145 : Index := Scalar.indexCast v144
  let c112_96 : Index := 112#32
  ![v145.toNat, 112]
def k1_cond2 (k1_t1 : Fin k1_t1_loop.trips) : BitVec 1 :=
  let c5_i32 : BitVec 32 := 5#32
  let c0_i32_17 : BitVec 32 := 0#32
  let c1_i32 : BitVec 32 := 1#32
  let arg18 : BitVec 32 := Scf.iv c0_i32_17 c1_i32 k1_t1
  let v52 : BitVec 32 := Scalar.muli c5_i32 arg18
  let c1_i32_43 : BitVec 32 := 1#32
  let v70 : BitVec 32 := Scalar.addi v52 c1_i32_43
  let c5_i32_44 : BitVec 32 := 5#32
  let v71 : BitVec 32 := Scalar.addi v70 c5_i32_44
  let c196_i32_45 : BitVec 32 := 196#32
  let v72 : BitVec 1 := Scalar.cmpi .slt v71 c196_i32_45
  let v73 : BitVec 32 := Scalar.extui v72
  let c0_i32_46 : BitVec 32 := 0#32
  let v74 : BitVec 1 := Scalar.cmpi .ne v73 c0_i32_46
  v74

def k1_off20 (k1_t1 : Fin k1_t1_loop.trips) : Fin 1 → Nat :=
  let c5_i32 : BitVec 32 := 5#32
  let c0_i32_17 : BitVec 32 := 0#32
  let c1_i32 : BitVec 32 := 1#32
  let arg18 : BitVec 32 := Scf.iv c0_i32_17 c1_i32 k1_t1
  let v52 : BitVec 32 := Scalar.muli c5_i32 arg18
  let c1_i32_81 : BitVec 32 := 1#32
  let v108 : BitVec 32 := Scalar.addi v52 c1_i32_81
  let c5_i32_82 : BitVec 32 := 5#32
  let v109 : BitVec 32 := Scalar.addi v108 c5_i32_82
  let c128_i32_83 : BitVec 32 := 128#32
  let v110 : BitVec 32 := Scalar.muli v109 c128_i32_83
  ![v110.toNat]
@[reducible] def k1_t4_loop : Scf.Loop 32 :=
  let c0_i32_51 : BitVec 32 := 0#32
  let c16_i32_52 : BitVec 32 := 16#32
  let v79 : BitVec 32 := Scalar.addi c0_i32_51 c16_i32_52
  let c1_i32_53 : BitVec 32 := 1#32
  ⟨c0_i32_51, v79, c1_i32_53⟩
def k1_off21 (k1_t4 : Fin k1_t4_loop.trips) (c0_i32_81 : BitVec 32) : Fin 2 → Nat :=
  let c0_i32_51 : BitVec 32 := 0#32
  let c1_i32_53 : BitVec 32 := 1#32
  let arg27 : BitVec 32 := Scf.iv c0_i32_51 c1_i32_53 k1_t4
  let c8_i32 : BitVec 32 := 8#32
  let v108 : BitVec 32 := Scalar.muli arg27 c8_i32
  let v109 : BitVec 32 := Scalar.addi v108 c0_i32_81
  let v110 : Index := Scalar.indexCast v109
  let c0_82 : Index := 0#32
  ![v110.toNat, 0]
def k1_off22 (k1_t4 : Fin k1_t4_loop.trips) (c0_i32_83 : BitVec 32) : Fin 2 → Nat :=
  let c0_i32_51 : BitVec 32 := 0#32
  let c1_i32_53 : BitVec 32 := 1#32
  let arg27 : BitVec 32 := Scf.iv c0_i32_51 c1_i32_53 k1_t4
  let c8_i32 : BitVec 32 := 8#32
  let v108 : BitVec 32 := Scalar.muli arg27 c8_i32
  let v114 : BitVec 32 := Scalar.addi v108 c0_i32_83
  let v115 : Index := Scalar.indexCast v114
  let c16_84 : Index := 16#32
  ![v115.toNat, 16]
def k1_off23 (k1_t4 : Fin k1_t4_loop.trips) (c0_i32_85 : BitVec 32) : Fin 2 → Nat :=
  let c0_i32_51 : BitVec 32 := 0#32
  let c1_i32_53 : BitVec 32 := 1#32
  let arg27 : BitVec 32 := Scf.iv c0_i32_51 c1_i32_53 k1_t4
  let c8_i32 : BitVec 32 := 8#32
  let v108 : BitVec 32 := Scalar.muli arg27 c8_i32
  let v119 : BitVec 32 := Scalar.addi v108 c0_i32_85
  let v120 : Index := Scalar.indexCast v119
  let c32_86 : Index := 32#32
  ![v120.toNat, 32]
def k1_off24 (k1_t4 : Fin k1_t4_loop.trips) (c0_i32_87 : BitVec 32) : Fin 2 → Nat :=
  let c0_i32_51 : BitVec 32 := 0#32
  let c1_i32_53 : BitVec 32 := 1#32
  let arg27 : BitVec 32 := Scf.iv c0_i32_51 c1_i32_53 k1_t4
  let c8_i32 : BitVec 32 := 8#32
  let v108 : BitVec 32 := Scalar.muli arg27 c8_i32
  let v124 : BitVec 32 := Scalar.addi v108 c0_i32_87
  let v125 : Index := Scalar.indexCast v124
  let c48_88 : Index := 48#32
  ![v125.toNat, 48]
def k1_off25 (k1_t4 : Fin k1_t4_loop.trips) (c0_i32_89 : BitVec 32) : Fin 2 → Nat :=
  let c0_i32_51 : BitVec 32 := 0#32
  let c1_i32_53 : BitVec 32 := 1#32
  let arg27 : BitVec 32 := Scf.iv c0_i32_51 c1_i32_53 k1_t4
  let c8_i32 : BitVec 32 := 8#32
  let v108 : BitVec 32 := Scalar.muli arg27 c8_i32
  let v129 : BitVec 32 := Scalar.addi v108 c0_i32_89
  let v130 : Index := Scalar.indexCast v129
  let c64_90 : Index := 64#32
  ![v130.toNat, 64]
def k1_off26 (k1_t4 : Fin k1_t4_loop.trips) (c0_i32_91 : BitVec 32) : Fin 2 → Nat :=
  let c0_i32_51 : BitVec 32 := 0#32
  let c1_i32_53 : BitVec 32 := 1#32
  let arg27 : BitVec 32 := Scf.iv c0_i32_51 c1_i32_53 k1_t4
  let c8_i32 : BitVec 32 := 8#32
  let v108 : BitVec 32 := Scalar.muli arg27 c8_i32
  let v134 : BitVec 32 := Scalar.addi v108 c0_i32_91
  let v135 : Index := Scalar.indexCast v134
  let c80_92 : Index := 80#32
  ![v135.toNat, 80]
def k1_off27 (k1_t4 : Fin k1_t4_loop.trips) (c0_i32_93 : BitVec 32) : Fin 2 → Nat :=
  let c0_i32_51 : BitVec 32 := 0#32
  let c1_i32_53 : BitVec 32 := 1#32
  let arg27 : BitVec 32 := Scf.iv c0_i32_51 c1_i32_53 k1_t4
  let c8_i32 : BitVec 32 := 8#32
  let v108 : BitVec 32 := Scalar.muli arg27 c8_i32
  let v139 : BitVec 32 := Scalar.addi v108 c0_i32_93
  let v140 : Index := Scalar.indexCast v139
  let c96_94 : Index := 96#32
  ![v140.toNat, 96]
def k1_off28 (k1_t4 : Fin k1_t4_loop.trips) (c0_i32_95 : BitVec 32) : Fin 2 → Nat :=
  let c0_i32_51 : BitVec 32 := 0#32
  let c1_i32_53 : BitVec 32 := 1#32
  let arg27 : BitVec 32 := Scf.iv c0_i32_51 c1_i32_53 k1_t4
  let c8_i32 : BitVec 32 := 8#32
  let v108 : BitVec 32 := Scalar.muli arg27 c8_i32
  let v144 : BitVec 32 := Scalar.addi v108 c0_i32_95
  let v145 : Index := Scalar.indexCast v144
  let c112_96 : Index := 112#32
  ![v145.toNat, 112]
def k1_cond3 (k1_t1 : Fin k1_t1_loop.trips) : BitVec 1 :=
  let c5_i32 : BitVec 32 := 5#32
  let c0_i32_17 : BitVec 32 := 0#32
  let c1_i32 : BitVec 32 := 1#32
  let arg18 : BitVec 32 := Scf.iv c0_i32_17 c1_i32 k1_t1
  let v52 : BitVec 32 := Scalar.muli c5_i32 arg18
  let c2_i32_55 : BitVec 32 := 2#32
  let v81 : BitVec 32 := Scalar.addi v52 c2_i32_55
  let c5_i32_56 : BitVec 32 := 5#32
  let v82 : BitVec 32 := Scalar.addi v81 c5_i32_56
  let c196_i32_57 : BitVec 32 := 196#32
  let v83 : BitVec 1 := Scalar.cmpi .slt v82 c196_i32_57
  let v84 : BitVec 32 := Scalar.extui v83
  let c0_i32_58 : BitVec 32 := 0#32
  let v85 : BitVec 1 := Scalar.cmpi .ne v84 c0_i32_58
  v85

def k1_off29 (k1_t1 : Fin k1_t1_loop.trips) : Fin 1 → Nat :=
  let c5_i32 : BitVec 32 := 5#32
  let c0_i32_17 : BitVec 32 := 0#32
  let c1_i32 : BitVec 32 := 1#32
  let arg18 : BitVec 32 := Scf.iv c0_i32_17 c1_i32 k1_t1
  let v52 : BitVec 32 := Scalar.muli c5_i32 arg18
  let c2_i32_81 : BitVec 32 := 2#32
  let v108 : BitVec 32 := Scalar.addi v52 c2_i32_81
  let c5_i32_82 : BitVec 32 := 5#32
  let v109 : BitVec 32 := Scalar.addi v108 c5_i32_82
  let c128_i32_83 : BitVec 32 := 128#32
  let v110 : BitVec 32 := Scalar.muli v109 c128_i32_83
  ![v110.toNat]
@[reducible] def k1_t5_loop : Scf.Loop 32 :=
  let c0_i32_62 : BitVec 32 := 0#32
  let c16_i32_63 : BitVec 32 := 16#32
  let v90 : BitVec 32 := Scalar.addi c0_i32_62 c16_i32_63
  let c1_i32_64 : BitVec 32 := 1#32
  ⟨c0_i32_62, v90, c1_i32_64⟩
def k1_off30 (k1_t5 : Fin k1_t5_loop.trips) (c0_i32_81 : BitVec 32) : Fin 2 → Nat :=
  let c0_i32_62 : BitVec 32 := 0#32
  let c1_i32_64 : BitVec 32 := 1#32
  let arg27 : BitVec 32 := Scf.iv c0_i32_62 c1_i32_64 k1_t5
  let c8_i32 : BitVec 32 := 8#32
  let v108 : BitVec 32 := Scalar.muli arg27 c8_i32
  let v109 : BitVec 32 := Scalar.addi v108 c0_i32_81
  let v110 : Index := Scalar.indexCast v109
  let c0_82 : Index := 0#32
  ![v110.toNat, 0]
def k1_off31 (k1_t5 : Fin k1_t5_loop.trips) (c0_i32_83 : BitVec 32) : Fin 2 → Nat :=
  let c0_i32_62 : BitVec 32 := 0#32
  let c1_i32_64 : BitVec 32 := 1#32
  let arg27 : BitVec 32 := Scf.iv c0_i32_62 c1_i32_64 k1_t5
  let c8_i32 : BitVec 32 := 8#32
  let v108 : BitVec 32 := Scalar.muli arg27 c8_i32
  let v114 : BitVec 32 := Scalar.addi v108 c0_i32_83
  let v115 : Index := Scalar.indexCast v114
  let c16_84 : Index := 16#32
  ![v115.toNat, 16]
def k1_off32 (k1_t5 : Fin k1_t5_loop.trips) (c0_i32_85 : BitVec 32) : Fin 2 → Nat :=
  let c0_i32_62 : BitVec 32 := 0#32
  let c1_i32_64 : BitVec 32 := 1#32
  let arg27 : BitVec 32 := Scf.iv c0_i32_62 c1_i32_64 k1_t5
  let c8_i32 : BitVec 32 := 8#32
  let v108 : BitVec 32 := Scalar.muli arg27 c8_i32
  let v119 : BitVec 32 := Scalar.addi v108 c0_i32_85
  let v120 : Index := Scalar.indexCast v119
  let c32_86 : Index := 32#32
  ![v120.toNat, 32]
def k1_off33 (k1_t5 : Fin k1_t5_loop.trips) (c0_i32_87 : BitVec 32) : Fin 2 → Nat :=
  let c0_i32_62 : BitVec 32 := 0#32
  let c1_i32_64 : BitVec 32 := 1#32
  let arg27 : BitVec 32 := Scf.iv c0_i32_62 c1_i32_64 k1_t5
  let c8_i32 : BitVec 32 := 8#32
  let v108 : BitVec 32 := Scalar.muli arg27 c8_i32
  let v124 : BitVec 32 := Scalar.addi v108 c0_i32_87
  let v125 : Index := Scalar.indexCast v124
  let c48_88 : Index := 48#32
  ![v125.toNat, 48]
def k1_off34 (k1_t5 : Fin k1_t5_loop.trips) (c0_i32_89 : BitVec 32) : Fin 2 → Nat :=
  let c0_i32_62 : BitVec 32 := 0#32
  let c1_i32_64 : BitVec 32 := 1#32
  let arg27 : BitVec 32 := Scf.iv c0_i32_62 c1_i32_64 k1_t5
  let c8_i32 : BitVec 32 := 8#32
  let v108 : BitVec 32 := Scalar.muli arg27 c8_i32
  let v129 : BitVec 32 := Scalar.addi v108 c0_i32_89
  let v130 : Index := Scalar.indexCast v129
  let c64_90 : Index := 64#32
  ![v130.toNat, 64]
def k1_off35 (k1_t5 : Fin k1_t5_loop.trips) (c0_i32_91 : BitVec 32) : Fin 2 → Nat :=
  let c0_i32_62 : BitVec 32 := 0#32
  let c1_i32_64 : BitVec 32 := 1#32
  let arg27 : BitVec 32 := Scf.iv c0_i32_62 c1_i32_64 k1_t5
  let c8_i32 : BitVec 32 := 8#32
  let v108 : BitVec 32 := Scalar.muli arg27 c8_i32
  let v134 : BitVec 32 := Scalar.addi v108 c0_i32_91
  let v135 : Index := Scalar.indexCast v134
  let c80_92 : Index := 80#32
  ![v135.toNat, 80]
def k1_off36 (k1_t5 : Fin k1_t5_loop.trips) (c0_i32_93 : BitVec 32) : Fin 2 → Nat :=
  let c0_i32_62 : BitVec 32 := 0#32
  let c1_i32_64 : BitVec 32 := 1#32
  let arg27 : BitVec 32 := Scf.iv c0_i32_62 c1_i32_64 k1_t5
  let c8_i32 : BitVec 32 := 8#32
  let v108 : BitVec 32 := Scalar.muli arg27 c8_i32
  let v139 : BitVec 32 := Scalar.addi v108 c0_i32_93
  let v140 : Index := Scalar.indexCast v139
  let c96_94 : Index := 96#32
  ![v140.toNat, 96]
def k1_off37 (k1_t5 : Fin k1_t5_loop.trips) (c0_i32_95 : BitVec 32) : Fin 2 → Nat :=
  let c0_i32_62 : BitVec 32 := 0#32
  let c1_i32_64 : BitVec 32 := 1#32
  let arg27 : BitVec 32 := Scf.iv c0_i32_62 c1_i32_64 k1_t5
  let c8_i32 : BitVec 32 := 8#32
  let v108 : BitVec 32 := Scalar.muli arg27 c8_i32
  let v144 : BitVec 32 := Scalar.addi v108 c0_i32_95
  let v145 : Index := Scalar.indexCast v144
  let c112_96 : Index := 112#32
  ![v145.toNat, 112]
def k1_cond4 (k1_t1 : Fin k1_t1_loop.trips) : BitVec 1 :=
  let c5_i32 : BitVec 32 := 5#32
  let c0_i32_17 : BitVec 32 := 0#32
  let c1_i32 : BitVec 32 := 1#32
  let arg18 : BitVec 32 := Scf.iv c0_i32_17 c1_i32 k1_t1
  let v52 : BitVec 32 := Scalar.muli c5_i32 arg18
  let c3_i32_66 : BitVec 32 := 3#32
  let v92 : BitVec 32 := Scalar.addi v52 c3_i32_66
  let c5_i32_67 : BitVec 32 := 5#32
  let v93 : BitVec 32 := Scalar.addi v92 c5_i32_67
  let c196_i32_68 : BitVec 32 := 196#32
  let v94 : BitVec 1 := Scalar.cmpi .slt v93 c196_i32_68
  let v95 : BitVec 32 := Scalar.extui v94
  let c0_i32_69 : BitVec 32 := 0#32
  let v96 : BitVec 1 := Scalar.cmpi .ne v95 c0_i32_69
  v96

def k1_off38 (k1_t1 : Fin k1_t1_loop.trips) : Fin 1 → Nat :=
  let c5_i32 : BitVec 32 := 5#32
  let c0_i32_17 : BitVec 32 := 0#32
  let c1_i32 : BitVec 32 := 1#32
  let arg18 : BitVec 32 := Scf.iv c0_i32_17 c1_i32 k1_t1
  let v52 : BitVec 32 := Scalar.muli c5_i32 arg18
  let c3_i32_81 : BitVec 32 := 3#32
  let v108 : BitVec 32 := Scalar.addi v52 c3_i32_81
  let c5_i32_82 : BitVec 32 := 5#32
  let v109 : BitVec 32 := Scalar.addi v108 c5_i32_82
  let c128_i32_83 : BitVec 32 := 128#32
  let v110 : BitVec 32 := Scalar.muli v109 c128_i32_83
  ![v110.toNat]
@[reducible] def k1_t6_loop : Scf.Loop 32 :=
  let c0_i32_73 : BitVec 32 := 0#32
  let c16_i32_74 : BitVec 32 := 16#32
  let v101 : BitVec 32 := Scalar.addi c0_i32_73 c16_i32_74
  let c1_i32_75 : BitVec 32 := 1#32
  ⟨c0_i32_73, v101, c1_i32_75⟩
def k1_off39 (k1_t6 : Fin k1_t6_loop.trips) (c0_i32_81 : BitVec 32) : Fin 2 → Nat :=
  let c0_i32_73 : BitVec 32 := 0#32
  let c1_i32_75 : BitVec 32 := 1#32
  let arg27 : BitVec 32 := Scf.iv c0_i32_73 c1_i32_75 k1_t6
  let c8_i32 : BitVec 32 := 8#32
  let v108 : BitVec 32 := Scalar.muli arg27 c8_i32
  let v109 : BitVec 32 := Scalar.addi v108 c0_i32_81
  let v110 : Index := Scalar.indexCast v109
  let c0_82 : Index := 0#32
  ![v110.toNat, 0]
def k1_off40 (k1_t6 : Fin k1_t6_loop.trips) (c0_i32_83 : BitVec 32) : Fin 2 → Nat :=
  let c0_i32_73 : BitVec 32 := 0#32
  let c1_i32_75 : BitVec 32 := 1#32
  let arg27 : BitVec 32 := Scf.iv c0_i32_73 c1_i32_75 k1_t6
  let c8_i32 : BitVec 32 := 8#32
  let v108 : BitVec 32 := Scalar.muli arg27 c8_i32
  let v114 : BitVec 32 := Scalar.addi v108 c0_i32_83
  let v115 : Index := Scalar.indexCast v114
  let c16_84 : Index := 16#32
  ![v115.toNat, 16]
def k1_off41 (k1_t6 : Fin k1_t6_loop.trips) (c0_i32_85 : BitVec 32) : Fin 2 → Nat :=
  let c0_i32_73 : BitVec 32 := 0#32
  let c1_i32_75 : BitVec 32 := 1#32
  let arg27 : BitVec 32 := Scf.iv c0_i32_73 c1_i32_75 k1_t6
  let c8_i32 : BitVec 32 := 8#32
  let v108 : BitVec 32 := Scalar.muli arg27 c8_i32
  let v119 : BitVec 32 := Scalar.addi v108 c0_i32_85
  let v120 : Index := Scalar.indexCast v119
  let c32_86 : Index := 32#32
  ![v120.toNat, 32]
def k1_off42 (k1_t6 : Fin k1_t6_loop.trips) (c0_i32_87 : BitVec 32) : Fin 2 → Nat :=
  let c0_i32_73 : BitVec 32 := 0#32
  let c1_i32_75 : BitVec 32 := 1#32
  let arg27 : BitVec 32 := Scf.iv c0_i32_73 c1_i32_75 k1_t6
  let c8_i32 : BitVec 32 := 8#32
  let v108 : BitVec 32 := Scalar.muli arg27 c8_i32
  let v124 : BitVec 32 := Scalar.addi v108 c0_i32_87
  let v125 : Index := Scalar.indexCast v124
  let c48_88 : Index := 48#32
  ![v125.toNat, 48]
def k1_off43 (k1_t6 : Fin k1_t6_loop.trips) (c0_i32_89 : BitVec 32) : Fin 2 → Nat :=
  let c0_i32_73 : BitVec 32 := 0#32
  let c1_i32_75 : BitVec 32 := 1#32
  let arg27 : BitVec 32 := Scf.iv c0_i32_73 c1_i32_75 k1_t6
  let c8_i32 : BitVec 32 := 8#32
  let v108 : BitVec 32 := Scalar.muli arg27 c8_i32
  let v129 : BitVec 32 := Scalar.addi v108 c0_i32_89
  let v130 : Index := Scalar.indexCast v129
  let c64_90 : Index := 64#32
  ![v130.toNat, 64]
def k1_off44 (k1_t6 : Fin k1_t6_loop.trips) (c0_i32_91 : BitVec 32) : Fin 2 → Nat :=
  let c0_i32_73 : BitVec 32 := 0#32
  let c1_i32_75 : BitVec 32 := 1#32
  let arg27 : BitVec 32 := Scf.iv c0_i32_73 c1_i32_75 k1_t6
  let c8_i32 : BitVec 32 := 8#32
  let v108 : BitVec 32 := Scalar.muli arg27 c8_i32
  let v134 : BitVec 32 := Scalar.addi v108 c0_i32_91
  let v135 : Index := Scalar.indexCast v134
  let c80_92 : Index := 80#32
  ![v135.toNat, 80]
def k1_off45 (k1_t6 : Fin k1_t6_loop.trips) (c0_i32_93 : BitVec 32) : Fin 2 → Nat :=
  let c0_i32_73 : BitVec 32 := 0#32
  let c1_i32_75 : BitVec 32 := 1#32
  let arg27 : BitVec 32 := Scf.iv c0_i32_73 c1_i32_75 k1_t6
  let c8_i32 : BitVec 32 := 8#32
  let v108 : BitVec 32 := Scalar.muli arg27 c8_i32
  let v139 : BitVec 32 := Scalar.addi v108 c0_i32_93
  let v140 : Index := Scalar.indexCast v139
  let c96_94 : Index := 96#32
  ![v140.toNat, 96]
def k1_off46 (k1_t6 : Fin k1_t6_loop.trips) (c0_i32_95 : BitVec 32) : Fin 2 → Nat :=
  let c0_i32_73 : BitVec 32 := 0#32
  let c1_i32_75 : BitVec 32 := 1#32
  let arg27 : BitVec 32 := Scf.iv c0_i32_73 c1_i32_75 k1_t6
  let c8_i32 : BitVec 32 := 8#32
  let v108 : BitVec 32 := Scalar.muli arg27 c8_i32
  let v144 : BitVec 32 := Scalar.addi v108 c0_i32_95
  let v145 : Index := Scalar.indexCast v144
  let c112_96 : Index := 112#32
  ![v145.toNat, 112]
def k1_cond5 (k1_t1 : Fin k1_t1_loop.trips) : BitVec 1 :=
  let c5_i32 : BitVec 32 := 5#32
  let c0_i32_17 : BitVec 32 := 0#32
  let c1_i32 : BitVec 32 := 1#32
  let arg18 : BitVec 32 := Scf.iv c0_i32_17 c1_i32 k1_t1
  let v52 : BitVec 32 := Scalar.muli c5_i32 arg18
  let c4_i32_77 : BitVec 32 := 4#32
  let v103 : BitVec 32 := Scalar.addi v52 c4_i32_77
  let c5_i32_78 : BitVec 32 := 5#32
  let v104 : BitVec 32 := Scalar.addi v103 c5_i32_78
  let c196_i32_79 : BitVec 32 := 196#32
  let v105 : BitVec 1 := Scalar.cmpi .slt v104 c196_i32_79
  let v106 : BitVec 32 := Scalar.extui v105
  let c0_i32_80 : BitVec 32 := 0#32
  let v107 : BitVec 1 := Scalar.cmpi .ne v106 c0_i32_80
  v107

def k1_off47 (k1_t1 : Fin k1_t1_loop.trips) : Fin 1 → Nat :=
  let c5_i32 : BitVec 32 := 5#32
  let c0_i32_17 : BitVec 32 := 0#32
  let c1_i32 : BitVec 32 := 1#32
  let arg18 : BitVec 32 := Scf.iv c0_i32_17 c1_i32 k1_t1
  let v52 : BitVec 32 := Scalar.muli c5_i32 arg18
  let c4_i32_81 : BitVec 32 := 4#32
  let v108 : BitVec 32 := Scalar.addi v52 c4_i32_81
  let c5_i32_82 : BitVec 32 := 5#32
  let v109 : BitVec 32 := Scalar.addi v108 c5_i32_82
  let c128_i32_83 : BitVec 32 := 128#32
  let v110 : BitVec 32 := Scalar.muli v109 c128_i32_83
  ![v110.toNat]
@[reducible] def k1_t7_loop : Scf.Loop 32 :=
  let c0_i32_21 : BitVec 32 := 0#32
  let c16_i32 : BitVec 32 := 16#32
  let v26 : BitVec 32 := Scalar.addi c0_i32_21 c16_i32
  let c1_i32_22 : BitVec 32 := 1#32
  ⟨c0_i32_21, v26, c1_i32_22⟩
def k1_off48 (k1_t7 : Fin k1_t7_loop.trips) (c0_i32_24 : BitVec 32) : Fin 2 → Nat :=
  let c0_i32_21 : BitVec 32 := 0#32
  let c1_i32_22 : BitVec 32 := 1#32
  let arg18 : BitVec 32 := Scf.iv c0_i32_21 c1_i32_22 k1_t7
  let c8_i32 : BitVec 32 := 8#32
  let v52 : BitVec 32 := Scalar.muli arg18 c8_i32
  let v53 : BitVec 32 := Scalar.addi v52 c0_i32_24
  let v54 : Index := Scalar.indexCast v53
  let c0_25 : Index := 0#32
  ![v54.toNat, 0]
def k1_off49 (k1_t7 : Fin k1_t7_loop.trips) (c0_i32_26 : BitVec 32) : Fin 2 → Nat :=
  let c0_i32_21 : BitVec 32 := 0#32
  let c1_i32_22 : BitVec 32 := 1#32
  let arg18 : BitVec 32 := Scf.iv c0_i32_21 c1_i32_22 k1_t7
  let c8_i32 : BitVec 32 := 8#32
  let v52 : BitVec 32 := Scalar.muli arg18 c8_i32
  let v58 : BitVec 32 := Scalar.addi v52 c0_i32_26
  let v59 : Index := Scalar.indexCast v58
  let c16_27 : Index := 16#32
  ![v59.toNat, 16]
def k1_off50 (k1_t7 : Fin k1_t7_loop.trips) (c0_i32_28 : BitVec 32) : Fin 2 → Nat :=
  let c0_i32_21 : BitVec 32 := 0#32
  let c1_i32_22 : BitVec 32 := 1#32
  let arg18 : BitVec 32 := Scf.iv c0_i32_21 c1_i32_22 k1_t7
  let c8_i32 : BitVec 32 := 8#32
  let v52 : BitVec 32 := Scalar.muli arg18 c8_i32
  let v63 : BitVec 32 := Scalar.addi v52 c0_i32_28
  let v64 : Index := Scalar.indexCast v63
  let c32_29 : Index := 32#32
  ![v64.toNat, 32]
def k1_off51 (k1_t7 : Fin k1_t7_loop.trips) (c0_i32_30 : BitVec 32) : Fin 2 → Nat :=
  let c0_i32_21 : BitVec 32 := 0#32
  let c1_i32_22 : BitVec 32 := 1#32
  let arg18 : BitVec 32 := Scf.iv c0_i32_21 c1_i32_22 k1_t7
  let c8_i32 : BitVec 32 := 8#32
  let v52 : BitVec 32 := Scalar.muli arg18 c8_i32
  let v68 : BitVec 32 := Scalar.addi v52 c0_i32_30
  let v69 : Index := Scalar.indexCast v68
  let c48_31 : Index := 48#32
  ![v69.toNat, 48]
def k1_off52 (k1_t7 : Fin k1_t7_loop.trips) (c0_i32_32 : BitVec 32) : Fin 2 → Nat :=
  let c0_i32_21 : BitVec 32 := 0#32
  let c1_i32_22 : BitVec 32 := 1#32
  let arg18 : BitVec 32 := Scf.iv c0_i32_21 c1_i32_22 k1_t7
  let c8_i32 : BitVec 32 := 8#32
  let v52 : BitVec 32 := Scalar.muli arg18 c8_i32
  let v73 : BitVec 32 := Scalar.addi v52 c0_i32_32
  let v74 : Index := Scalar.indexCast v73
  let c64_33 : Index := 64#32
  ![v74.toNat, 64]
def k1_off53 (k1_t7 : Fin k1_t7_loop.trips) (c0_i32_34 : BitVec 32) : Fin 2 → Nat :=
  let c0_i32_21 : BitVec 32 := 0#32
  let c1_i32_22 : BitVec 32 := 1#32
  let arg18 : BitVec 32 := Scf.iv c0_i32_21 c1_i32_22 k1_t7
  let c8_i32 : BitVec 32 := 8#32
  let v52 : BitVec 32 := Scalar.muli arg18 c8_i32
  let v78 : BitVec 32 := Scalar.addi v52 c0_i32_34
  let v79 : Index := Scalar.indexCast v78
  let c80_35 : Index := 80#32
  ![v79.toNat, 80]
def k1_off54 (k1_t7 : Fin k1_t7_loop.trips) (c0_i32_36 : BitVec 32) : Fin 2 → Nat :=
  let c0_i32_21 : BitVec 32 := 0#32
  let c1_i32_22 : BitVec 32 := 1#32
  let arg18 : BitVec 32 := Scf.iv c0_i32_21 c1_i32_22 k1_t7
  let c8_i32 : BitVec 32 := 8#32
  let v52 : BitVec 32 := Scalar.muli arg18 c8_i32
  let v83 : BitVec 32 := Scalar.addi v52 c0_i32_36
  let v84 : Index := Scalar.indexCast v83
  let c96_37 : Index := 96#32
  ![v84.toNat, 96]
def k1_off55 (k1_t7 : Fin k1_t7_loop.trips) (c0_i32_38 : BitVec 32) : Fin 2 → Nat :=
  let c0_i32_21 : BitVec 32 := 0#32
  let c1_i32_22 : BitVec 32 := 1#32
  let arg18 : BitVec 32 := Scf.iv c0_i32_21 c1_i32_22 k1_t7
  let c8_i32 : BitVec 32 := 8#32
  let v52 : BitVec 32 := Scalar.muli arg18 c8_i32
  let v88 : BitVec 32 := Scalar.addi v52 c0_i32_38
  let v89 : Index := Scalar.indexCast v88
  let c112_39 : Index := 112#32
  ![v89.toNat, 112]
def k1_off56 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_24_r1 : BitVec 32 := 0#32
  ![v1.toNat, 0]
abbrev grid2 : Pipeline.Grid := .none

abbrev stage2_0 : Fin 1 → Memref sig .tc .vmem S16384x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S100x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x100 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S100x100 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x100 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S6x100 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S6x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S6x16384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev grid3 : Pipeline.Grid := .none

abbrev stage3_0 : Fin 1 → Memref sig .tc .vmem S32x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S100x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x100 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S100x100 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1x100 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S6x100 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S1x6 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))

abbrev stage3_8 : Fin 1 → Memref sig .tc .vmem S1x6 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== KernelIdeal.lean ====
variable {F : FTy → Type} [FloatOps F] [Named F]
def κ : String → Option EReal := fun
  | "inv_count" => some ((1 / 802817 : ℝ) : EReal)
  | _ => none
-- ==== ReferenceIdeal.lean ====
abbrev S819200 : Shape := ⟨1, ![819200]⟩
abbrev S16384 : Shape := ⟨1, ![16384]⟩
abbrev S1000000x128 : Shape := ⟨2, ![1000000, 128]⟩
abbrev S100x128 : Shape := ⟨2, ![100, 128]⟩
abbrev S100 : Shape := ⟨1, ![100]⟩
abbrev S100x100 : Shape := ⟨2, ![100, 100]⟩
abbrev S6x100 : Shape := ⟨2, ![6, 100]⟩
abbrev S6 : Shape := ⟨1, ![6]⟩
abbrev S1x16384 : Shape := ⟨2, ![1, 16384]⟩
abbrev S819200x1 : Shape := ⟨2, ![819200, 1]⟩
abbrev S819200x16384 : Shape := ⟨2, ![819200, 16384]⟩
abbrev S_ : Shape := ⟨0, ![]⟩
abbrev S1 : Shape := ⟨1, ![1]⟩
abbrev S1x1 : Shape := ⟨2, ![1, 1]⟩
abbrev S819200x128 : Shape := ⟨2, ![819200, 128]⟩
abbrev S16384x128 : Shape := ⟨2, ![16384, 128]⟩
abbrev S16384x1 : Shape := ⟨2, ![16384, 1]⟩
abbrev S128x100 : Shape := ⟨2, ![128, 100]⟩
abbrev S16384x100 : Shape := ⟨2, ![16384, 100]⟩
abbrev S1x100 : Shape := ⟨2, ![1, 100]⟩
abbrev S100x6 : Shape := ⟨2, ![100, 6]⟩
abbrev S16384x6 : Shape := ⟨2, ![16384, 6]⟩
abbrev S1x6 : Shape := ⟨2, ![1, 6]⟩

abbrev nBuf : Space → Nat
  | .hbm => 81
  | .vmem => 0
  | .smem => 0
  | _ => 0

abbrev bufTy : (tb : Table) → Fin (tcTables nBuf tb) → BufTy
  | .hbm, ⟨0, _⟩ => ⟨S819200, .i32⟩
  | .hbm, ⟨1, _⟩ => ⟨S16384, .i32⟩
  | .hbm, ⟨2, _⟩ => ⟨S1000000x128, .f32⟩
  | .hbm, ⟨3, _⟩ => ⟨S100x128, .f32⟩
  | .hbm, ⟨4, _⟩ => ⟨S100, .f32⟩
  | .hbm, ⟨5, _⟩ => ⟨S100x100, .f32⟩
  | .hbm, ⟨6, _⟩ => ⟨S100, .f32⟩
  | .hbm, ⟨7, _⟩ => ⟨S6x100, .f32⟩
  | .hbm, ⟨8, _⟩ => ⟨S6, .f32⟩
  | .hbm, ⟨9, _⟩ => ⟨S819200, .i32⟩
  | .hbm, ⟨10, _⟩ => ⟨S1x16384, .i32⟩
  | .hbm, ⟨11, _⟩ => ⟨S819200x1, .i32⟩
  | .hbm, ⟨12, _⟩ => ⟨S819200x16384, .i32⟩
  | .hbm, ⟨13, _⟩ => ⟨S819200x16384, .i32⟩
  | .hbm, ⟨14, _⟩ => ⟨S819200x16384, .i1⟩
  | .hbm, ⟨15, _⟩ => ⟨S819200x16384, .i32⟩
  | .hbm, ⟨16, _⟩ => ⟨S_, .i32⟩
  | .hbm, ⟨17, _⟩ => ⟨S819200, .i32⟩
  | .hbm, ⟨18, _⟩ => ⟨S_, .i32⟩
  | .hbm, ⟨19, _⟩ => ⟨S819200, .i32⟩
  | .hbm, ⟨20, _⟩ => ⟨S819200, .i32⟩
  | .hbm, ⟨21, _⟩ => ⟨S_, .i32⟩
  | .hbm, ⟨22, _⟩ => ⟨S819200, .i32⟩
  | .hbm, ⟨23, _⟩ => ⟨S819200, .i1⟩
  | .hbm, ⟨24, _⟩ => ⟨S_, .i32⟩
  | .hbm, ⟨25, _⟩ => ⟨S819200, .i32⟩
  | .hbm, ⟨26, _⟩ => ⟨S819200, .i32⟩
  | .hbm, ⟨27, _⟩ => ⟨S819200, .i32⟩
  | .hbm, ⟨28, _⟩ => ⟨S819200x1, .i32⟩
  | .hbm, ⟨29, _⟩ => ⟨S1, .i32⟩
  | .hbm, ⟨30, _⟩ => ⟨S_, .i32⟩
  | .hbm, ⟨31, _⟩ => ⟨S819200x1, .i32⟩
  | .hbm, ⟨32, _⟩ => ⟨S819200x1, .i1⟩
  | .hbm, ⟨33, _⟩ => ⟨S1x1, .i32⟩
  | .hbm, ⟨34, _⟩ => ⟨S819200x1, .i32⟩
  | .hbm, ⟨35, _⟩ => ⟨S819200x1, .i1⟩
  | .hbm, ⟨36, _⟩ => ⟨S819200x1, .i1⟩
  | .hbm, ⟨37, _⟩ => ⟨S_, .i1⟩
  | .hbm, ⟨38, _⟩ => ⟨S819200, .i1⟩
  | .hbm, ⟨39, _⟩ => ⟨S819200x128, .f32⟩
  | .hbm, ⟨40, _⟩ => ⟨S819200x128, .i1⟩
  | .hbm, ⟨41, _⟩ => ⟨S_, .f32⟩
  | .hbm, ⟨42, _⟩ => ⟨S819200x128, .f32⟩
  | .hbm, ⟨43, _⟩ => ⟨S819200x128, .f32⟩
  | .hbm, ⟨44, _⟩ => ⟨S_, .f32⟩
  | .hbm, ⟨45, _⟩ => ⟨S16384x128, .f32⟩
  | .hbm, ⟨46, _⟩ => ⟨S819200x1, .i32⟩
  | .hbm, ⟨47, _⟩ => ⟨S16384x128, .f32⟩
  | .hbm, ⟨48, _⟩ => ⟨S_, .f32⟩
  | .hbm, ⟨49, _⟩ => ⟨S819200, .f32⟩
  | .hbm, ⟨50, _⟩ => ⟨S_, .f32⟩
  | .hbm, ⟨51, _⟩ => ⟨S16384, .f32⟩
  | .hbm, ⟨52, _⟩ => ⟨S819200x1, .i32⟩
  | .hbm, ⟨53, _⟩ => ⟨S16384, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S16384x1, .f32⟩
  | .hbm, ⟨58, _⟩ => ⟨S16384x128, .f32⟩
  | .hbm, ⟨59, _⟩ => ⟨S16384x128, .f32⟩
  | .hbm, ⟨60, _⟩ => ⟨S128x100, .f32⟩
  | .hbm, ⟨61, _⟩ => ⟨S16384x100, .f32⟩
  | .hbm, ⟨62, _⟩ => ⟨S1x100, .f32⟩
  | .hbm, ⟨63, _⟩ => ⟨S16384x100, .f32⟩
  | .hbm, ⟨64, _⟩ => ⟨S16384x100, .f32⟩
  | .hbm, ⟨65, _⟩ => ⟨S_, .f32⟩
  | .hbm, ⟨66, _⟩ => ⟨S16384x100, .f32⟩
  | .hbm, ⟨67, _⟩ => ⟨S16384x100, .f32⟩
  | .hbm, ⟨68, _⟩ => ⟨S100x100, .f32⟩
  | .hbm, ⟨69, _⟩ => ⟨S16384x100, .f32⟩
  | .hbm, ⟨70, _⟩ => ⟨S1x100, .f32⟩
  | .hbm, ⟨71, _⟩ => ⟨S16384x100, .f32⟩
  | .hbm, ⟨72, _⟩ => ⟨S16384x100, .f32⟩
  | .hbm, ⟨73, _⟩ => ⟨S_, .f32⟩
  | .hbm, ⟨74, _⟩ => ⟨S16384x100, .f32⟩
  | .hbm, ⟨75, _⟩ => ⟨S16384x100, .f32⟩
  | .hbm, ⟨76, _⟩ => ⟨S100x6, .f32⟩
  | .hbm, ⟨77, _⟩ => ⟨S16384x6, .f32⟩
  | .hbm, ⟨78, _⟩ => ⟨S1x6, .f32⟩
  | .hbm, ⟨79, _⟩ => ⟨S16384x6, .f32⟩
  | .hbm, ⟨80, _⟩ => ⟨S16384x6, .f32⟩
  | _, _ => ⟨S819200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_cst_1 : Ref sig .tc := ⟨.hbm, 48, rfl⟩
abbrev main_v14 : Ref sig .tc := ⟨.hbm, 49, rfl⟩
abbrev main_cst_2 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_3 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_call1_cst : Ref sig .tc := ⟨.hbm, 65, rfl⟩
abbrev main_call1_v0 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_call2_cst : Ref sig .tc := ⟨.hbm, 73, rfl⟩
abbrev main_call2_v0 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩

abbrev nD : Nat := 1
abbrev τ : Topo := Topo.v7x

variable {F : FTy → Type} [FloatOps F]
-- ==== Proof.Common.lean ====
/-
  What every module of this proof shares: the program as the launch theorem sees it, the algebra of ghost state, the
  names of the buffers, and the contents that the two SparseCore calls leave.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 2) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the TensorCore pipelines' rounds, the transfers' counters -/

abbrev UH : Type := URounds (GSem nD τ sig) ℕ
abbrev UU : Type := UH × (UR sig nD τ × Counters)

local notation "𝕄" => MT nD τ sig (HIx 2) (Elt F) ℕ UU ℕ

abbrev EH : Emb UH (MT nD τ sig (HIx 2) (Elt F) ℕ UU ℕ) := embL
abbrev EP : Emb (UR sig nD τ) (MT nD τ sig (HIx 2) (Elt F) ℕ UU ℕ) := (Emb.inl : Emb (UR sig nD τ) (UR sig nD τ × Counters)).trans embR

/-! ## The buffers -/

abbrev xLoc (d : Dev nD) : Loc nD τ sig := (SparseCore.T d).loc main_arg0
abbrev eLoc (d : Dev nD) : Loc nD τ sig := (SparseCore.T d).loc main_arg2
abbrev pLoc (d : Dev nD) : Loc nD τ sig := (SparseCore.T d).loc main_v0
abbrev sLoc (d : Dev nD) : Loc nD τ sig := (SparseCore.T d).loc main_v1

/-- A word as a row of the table: its value below a million, any other word (which no run reads) row 0. -/
def rowOfWord (w : BitVec 32) : Fin 1000000 := if h : w.toNat < 1000000 then ⟨w.toNat, h⟩ else ⟨0, by decide⟩

theorem rowOfWord_val {w : BitVec 32} (h : w.toNat < 1000000) : (rowOfWord w).val = w.toNat := by
  unfold rowOfWord; rw [dif_pos h]

/-- The index `(i, j)` of a table of rows. -/
abbrev at2 {n k : ℕ} (i : Fin n) (j : Fin k) : (⟨2, ![n, k]⟩ : Shape).Idx := fun | 0 => i | 1 => j

/-- The index `i` of a list. -/
abbrev at1 {n : ℕ} (i : Fin n) : (⟨1, ![n]⟩ : Shape).Idx := fun | 0 => i

/-! ## What the calls leave, as functions of the words `x` and the table `e` -/

/-- What the first call leaves: row `i` of the table's rows named by the first 16384 words. -/
def pooledVal (x : S819200.Idx → Elt F .i32) (e : S1000000x128.Idx → Elt F .f32) : S16384x128.Idx → Elt F .f32 :=
  fun j => e (at2 (rowOfWord (x (at1 ⟨(j 0).val, lt_of_lt_of_le (j 0).isLt (by decide)⟩))) (j 1))

end Cert.Proof.Bag

end
-- ==== Proof.Sep.lean ====
/-
  Parts of an iterated separating conjunction named one by one, a share in several pieces, and the contents of a view
  after a copy has filled it.
-/
module

public import proofs.«01_k».proof.Proof.Common

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 2) (Elt F) ℕ UU ℕ

section

variable {α : Type} [DecidableEq α]

/-- The members of `l` stand apart from the rest of the conjunction over `S`. -/
theorem bigSep_take (Φ : α → sProp 𝕄) : ∀ (l : List α) (S : Finset α), l.Nodup → (∀ a ∈ l, a ∈ S) →
    bigSep S Φ = l.foldr (fun a P => iprop(Φ a ∗ P)) (bigSep (S \ l.toFinset) Φ)
  | [], S, _, _ => by simp
  | a :: l, S, hn, hs => by
    rw [SparseCore.bigSep_erase' (hs a (List.mem_cons_self ..)), List.foldr_cons,
      bigSep_take Φ l (S.erase a) (List.nodup_cons.mp hn).2 (fun b hb => Finset.mem_erase.mpr
        ⟨fun e => (List.nodup_cons.mp hn).1 (e ▸ hb), hs b (List.mem_cons_of_mem _ hb)⟩)]
    congr 3
    ext b; simp only [Finset.mem_sdiff, Finset.mem_erase, List.toFinset_cons, Finset.mem_insert]; tauto

theorem bigSep_two (Φ : Fin 2 → sProp 𝕄) : bigSep Finset.univ Φ = iprop(Φ 0 ∗ Φ 1) := by
  rw [bigSep_take Φ [0] Finset.univ (by decide) (by simp), List.foldr_cons, List.foldr_nil,
    show (Finset.univ \ [0].toFinset : Finset (Fin 2)) = {1} from by decide, bigSep_singleton]

theorem bigSep_four (Φ : Fin 4 → sProp 𝕄) : bigSep Finset.univ Φ = iprop(Φ 0 ∗ Φ 1 ∗ Φ 2 ∗ Φ 3) := by
  rw [bigSep_take Φ [0, 1, 2] Finset.univ (by decide) (by simp), List.foldr_cons, List.foldr_cons, List.foldr_cons, List.foldr_nil,
    show (Finset.univ \ [0, 1, 2].toFinset : Finset (Fin 4)) = {3} from by decide, bigSep_singleton]

theorem bigSep_five (Φ : Fin 5 → sProp 𝕄) : bigSep Finset.univ Φ = iprop(Φ 0 ∗ Φ 1 ∗ Φ 2 ∗ Φ 3 ∗ Φ 4) := by
  rw [bigSep_take Φ [0, 1, 2, 3] Finset.univ (by decide) (by simp), List.foldr_cons, List.foldr_cons, List.foldr_cons, List.foldr_cons,
    List.foldr_nil, show (Finset.univ \ [0, 1, 2, 3].toFinset : Finset (Fin 5)) = {4} from by decide, bigSep_singleton]

end

/-- The pieces of a share of a whole buffer. -/
abbrev pc (q : PosShare TreeShare) (n : ℕ) (h : 0 < n) (j : Fin n) : PosShare TreeShare := pieceOf q n h j

theorem pieces_four {ℓ : Loc nD τ sig} (f : Buf (Elt F) ℓ) (q : PosShare TreeShare) :
    (ℓ ↦{q} f : sProp 𝕄) = iprop((ℓ ↦{pc q 4 (by decide) 0} f) ∗ (ℓ ↦{pc q 4 (by decide) 1} f) ∗ (ℓ ↦{pc q 4 (by decide) 2} f) ∗ ℓ ↦{pc q 4 (by decide) 3} f) :=
  (pointsTo_piecesOf Finset.univ f (by decide) q).trans (bigSep_four _)

theorem pieces_five {ℓ : Loc nD τ sig} (f : Buf (Elt F) ℓ) (q : PosShare TreeShare) :
    (ℓ ↦{q} f : sProp 𝕄) = iprop((ℓ ↦{pc q 5 (by decide) 0} f) ∗ (ℓ ↦{pc q 5 (by decide) 1} f) ∗ (ℓ ↦{pc q 5 (by decide) 2} f)
      ∗ (ℓ ↦{pc q 5 (by decide) 3} f) ∗ ℓ ↦{pc q 5 (by decide) 4} f) :=
  (pointsTo_piecesOf Finset.univ f (by decide) q).trans (bigSep_five _)

/-- A view filled with `w` is, on its elements, any contents that read `w` there. -/
theorem pts_filled {κ : Kind} {sp : Space} {s : Shape} {e : EltTy} (v : View sig κ sp s e)
    (f g : v.ty.Contents (Elt F)) (w : s.Idx → Elt F e) (h : v.read (Elt F) g = w) :
    ∀ i ∈ v.set, v.write (Elt F) f w Finset.univ i = g i := by
  intro i hi
  obtain ⟨x, -, rfl⟩ := Finset.mem_map.mp hi
  refine (View.write_emb_of_mem f w (Finset.mem_univ x)).trans ?_
  rw [← h, View.read_apply]; simp

end Cert.Proof.Bag

end
-- ==== Proof.Gather.lean ====
/-
  One chunk of the table on its way: the rules for the indirect gather of 128 rows of the table into a row buffer, and
  for its wait, as a tile of either call uses them. The row buffer, its semaphore and the slice of the index list are
  any; the tile lends a share of the table and a share of the list for as long as the rows are on their way.
-/
module

public import proofs.«01_k».proof.Proof.Sep

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 2) (Elt F) ℕ UU ℕ

/-- The table, as a tile addresses it, and its slice that is all of it. -/
abbrev eV : Memref sig .scVector .hbm S1000000x128 .f32 := Memref.whole main_arg2_scv
abbrev eAll : Memref sig .scVector .hbm S1000000x128 .f32 :=
  eV.slice (Rect.unit (s := S1000000x128) ![0, 0] S1000000x128.size inb_S1000000x128_S1000000x128_0_0) (fun _ => rfl)

section Rules

variable (d : Dev nD) (c : Fin τ.nSC) (i : Fin τ.nSub)

/-- A row buffer at the values `v`, whatever buffer contents spell them. -/
def Rows (rV : Memref sig .scVector .vmem S128x128 .f32) (v : S128x128.Idx → Elt F .f32) : sProp 𝕄 :=
  iprop(∃ g, ⌜rV.view.read (Elt F) g = v⌝ ∗ rV.view.loc (V d c i) ↦[rV.view.set]{fullShare} g)

/-- The rows of a chunk: row `k` is the table's row named by the word `w k`. -/
def chunkVal (e : S1000000x128.Idx → Elt F .f32) (w : ℕ → BitVec 32) : S128x128.Idx → Elt F .f32 :=
  fun j => e (at2 (rowOfWord (w (j 0).val)) (j 1))

/-- What a chunk's wait delivers: the rows `v` in `rV`, the shares of the table and of the list (held whole). -/
def Landed {sl : Shape} (lV : Memref sig .scVector .vmem sl .i32)
    (rV : Memref sig .scVector .vmem S128x128 .f32) (q qo : PosShare TreeShare)
    (fe : Buf (Elt F) (eV.view.loc (V d c i))) (fl : Buf (Elt F) (lV.view.loc (V d c i))) (v : S128x128.Idx → Elt F .f32) : sProp 𝕄 :=
  iprop(Rows d c i rV v ∗ (eV.view.loc (V d c i) ↦{q} fe) ∗ (lV.view.loc (V d c i) ↦{qo} fl))

/-- A gather in flight: the wait will deliver `Landed`. -/
def Pend {sl : Shape} (lV : Memref sig .scVector .vmem sl .i32)
    (rV : Memref sig .scVector .vmem S128x128 .f32) (sem : DmaSem sig) (q qo : PosShare TreeShare)
    (fe : Buf (Elt F) (eV.view.loc (V d c i))) (fl : Buf (Elt F) (lV.view.loc (V d c i))) (v : S128x128.Idx → Elt F .f32) : sProp 𝕄 :=
  Transfers.Flight countersEmb (V d c i) (.dma sem) (default : HIx 2) rV.view.dmaCredit (Landed d c i lV rV q qo fe fl v)

omit [FloatOps F] [Named F] in
/-- A resource set aside while a transfer is in flight comes with what the transfer delivers. -/
theorem flight_frame {thr : Thread nD τ} {sm : SemLoc sig} {ι : HIx 2} {N : ℕ} {P X : sProp 𝕄} :
    iprop(Transfers.Flight countersEmb thr sm ι N P ∗ X) ⊢ Transfers.Flight countersEmb thr sm ι N iprop(P ∗ X) := by
  unfold Transfers.Flight
  iintro ⟨⟨⟨%R, HR, %hcap, %hpeek⟩, Hcred⟩, HX⟩
  isplitr [Hcred]
  · iexists iprop(R ∗ X)
    isplitl
    · isplitl [HR] <;> iassumption
    isplit
    · ipureintro; intro K
      iintro ⟨⟨HR, HX⟩, HK⟩
      iapply (hcap K)
      isplitl [HR]; · iexact HR
      iintro ⟨Hv, HP⟩
      iapply HK
      isplitl [Hv]; · iexact Hv
      isplitl [HP] <;> iassumption
    · ipureintro; intro K
      iintro ⟨⟨HR, HX⟩, HK⟩
      iapply (hpeek K)
      isplitl [HR]; · iexact HR
      iintro HR
      iapply HK
      isplitl [HR] <;> iassumption
  · iexact Hcred

variable {Λ' : Labels} (defs' : Defs nD τ sig (Elt F) Λ') (𝒱' : Variants) (bd : Option 𝒱'.V)

theorem gather_credit (rV : Memref sig .scVector .vmem S128x128 .f32) (hg : S1000000x128.Gathers 0 S128x128) :
    ∑ j, (rV.slice (S128x128.rowRect hg.axis' j) (S128x128.stride_rowRect hg.axis' j)).view.dmaCredit = rV.view.dmaCredit :=
  SparseCore.sum_rowCredit_eq_dmaCredit rV hg.axis' (fun _ => rfl)

/-- The slice of a list that starts at `off`: 128 words of it. -/
abbrev listAt {n : ℕ} (lV : Memref sig .scVector .vmem ⟨1, ![n]⟩ .i32) (off : Fin 1 → ℕ) (inb : ∀ a, off a + S128.size a ≤ (⟨1, ![n]⟩ : Shape).size a) :
    Memref sig .scVector .vmem S128 .i32 :=
  lV.slice (Rect.unit (s := ⟨1, ![n]⟩) off S128.size inb) (fun _ => rfl)

theorem listAt_read {n : ℕ} (lV : Memref sig .scVector .vmem ⟨1, ![n]⟩ .i32) (off : Fin 1 → ℕ) (inb : ∀ a, off a + S128.size a ≤ (⟨1, ![n]⟩ : Shape).size a)
    (fl : Buf (Elt F) (lV.view.loc (V d c i))) (x : S128.Idx) :
    (listAt lV off inb).view.read (Elt F) fl x = lV.view.read (Elt F) fl (at1 ⟨off 0 + (x 0).val, lt_of_lt_of_le (Nat.add_lt_add_left (x 0).isLt _) (inb 0)⟩) := by
  have e : (Rect.unit (s := ⟨1, ![n]⟩) off S128.size inb).emb x
      = at1 ⟨off 0 + (x 0).val, lt_of_lt_of_le (Nat.add_lt_add_left (x 0).isLt _) (inb 0)⟩ := by
    funext a; match a with
    | 0 => exact Fin.ext (by show off 0 + 1 * (x 0).val = off 0 + (x 0).val; rw [Nat.one_mul])
  exact congrArg (lV.view.read (Elt F) fl) e

theorem eAll_read (fe : Buf (Elt F) (eV.view.loc (V d c i))) (y : S1000000x128.Idx) : eAll.view.read (Elt F) fe y = fe y := by
  have e : (Rect.unit (s := S1000000x128) ![0, 0] S1000000x128.size inb_S1000000x128_S1000000x128_0_0).emb y = y := by
    funext a; match a with
    | 0 => exact Fin.ext (by simp [Rect.emb, Rect.unit])
    | 1 => exact Fin.ext (by simp [Rect.emb, Rect.unit])
  exact congrArg fe e

/-- A gather's payload, index by index: the table at the row the list names. -/
theorem payload_eq {offs : Memref sig .scVector .vmem S128 .i32} (fe : Buf (Elt F) (eV.view.loc (V d c i)))
    (fl : Buf (Elt F) (offs.view.loc (V d c i))) (w : ℕ → BitVec 32)
    (hw : ∀ x : S128.Idx, offs.view.read (Elt F) fl x = w (x 0).val)
    (hin : ∀ x, (offs.view.read (Elt F) fl x).toNat < S1000000x128.size gathers_S1000000x128_S128x128.axis) :
    SparseCore.gatherPayload gathers_S1000000x128_S128x128 (eAll.view.read (Elt F) fe)
      (SparseCore.rows (F := F) (offs.view.read (Elt F) fl) rfl hin) = chunkVal fe w := by
  funext j
  refine (eAll_read d c i fe _).trans (congrArg fe ?_)
  have hx : ∀ k : Fin S128.numel, ((S128.rowMajor.symm k) 0).val = k.val := fun k => by
    rw [← Shape.rowMajor_val_one, Equiv.apply_symm_apply]
  funext b
  match b with
  | 0 =>
    refine ((gathers_S1000000x128_S128x128).idx_axis _ j).trans (Fin.ext ?_)
    have hk : ∀ k : Fin S128.numel, (offs.view.read (Elt F) fl (S128.rowMajor.symm k)).toNat = (rowOfWord (w k.val)).val := fun k => by
      have hl := hin (S128.rowMajor.symm k)
      rw [hw, hx] at hl
      rw [hw, hx, rowOfWord_val hl]
    exact hk ((j 0).cast rfl)
  | 1 =>
    exact Fin.ext ((gathers_S1000000x128_S128x128).idx_of_ne _ j 1 (by decide))

variable {k₀ : ℕ}

/-- A chunk that has landed, from the written buffer and the shares in two parts each. -/
theorem landed_of {n : ℕ} {lV : Memref sig .scVector .vmem ⟨1, ![n]⟩ .i32} {off : Fin 1 → ℕ} {inb : ∀ a, off a + S128.size a ≤ (⟨1, ![n]⟩ : Shape).size a}
    {rV : Memref sig .scVector .vmem S128x128 .f32} {q qo : PosShare TreeShare}
    {fe : Buf (Elt F) (eV.view.loc (V d c i))} {fl : Buf (Elt F) (lV.view.loc (V d c i))} {g : Buf (Elt F) (rV.view.loc (V d c i))}
    {v : S128x128.Idx → Elt F .f32} (hg : rV.view.read (Elt F) g = v) :
    iprop(((rV.view.loc (V d c i) ↦[rV.view.set]{fullShare} g)
      ∗ (eAll.view.loc (V d c i) ↦[eAll.view.set]{q} fe) ∗ ((listAt lV off inb).view.loc (V d c i) ↦[(listAt lV off inb).view.set]{qo} fl))
      ∗ ((eV.view.loc (V d c i) ↦[Finset.univ \ eAll.view.set]{q} fe) ∗ (lV.view.loc (V d c i) ↦[Finset.univ \ (listAt lV off inb).view.set]{qo} fl)))
      ⊢ (Landed d c i lV rV q qo fe fl v : sProp 𝕄) := by
  have h1 : iprop((eAll.view.loc (V d c i) ↦[eAll.view.set]{q} fe) ∗ (eV.view.loc (V d c i) ↦[Finset.univ \ eAll.view.set]{q} fe))
      ⊢ (eV.view.loc (V d c i) ↦{q} fe : sProp 𝕄) :=
    (pointsTo_split_subset (q := q) (f := fe) (S := Finset.univ) (Finset.subset_univ eAll.view.set)).2
  have h2 : iprop(((listAt lV off inb).view.loc (V d c i) ↦[(listAt lV off inb).view.set]{qo} fl)
        ∗ (lV.view.loc (V d c i) ↦[Finset.univ \ (listAt lV off inb).view.set]{qo} fl))
      ⊢ (lV.view.loc (V d c i) ↦{qo} fl : sProp 𝕄) :=
    (pointsTo_split_subset (q := qo) (f := fl) (S := Finset.univ) (Finset.subset_univ (listAt lV off inb).view.set)).2
  unfold Landed Rows
  iintro ⟨⟨Hr, He, Hl⟩, Her, Hlr⟩
  isplitl [Hr]
  · iexists g; isplitr
    · ipureintro; exact hg
    · iexact Hr
  isplitl [He Her]
  · iapply h1
    isplitl [He]; · iexact He
    iexact Her
  · iapply h2
    isplitl [Hl]; · iexact Hl
    iexact Hlr

theorem numel_pos : 0 < S128x128.numel := by
  show 0 < ∏ a, S128x128.size a
  exact Finset.prod_pos fun a _ => by match a with
    | 0 => exact (by decide : (0 : ℕ) < 128)
    | 1 => exact (by decide : (0 : ℕ) < 128)

/-- The issue of a gather of a chunk: the row buffer's, the table's share and the list's share go out with it. -/
theorem wp_gather {n : ℕ} {lV : Memref sig .scVector .vmem ⟨1, ![n]⟩ .i32} {off : Fin 1 → ℕ} {inb : ∀ a, off a + S128.size a ≤ (⟨1, ![n]⟩ : Shape).size a}
    {rV : Memref sig .scVector .vmem S128x128 .f32} {sem : DmaSem sig} {q qo : PosShare TreeShare}
    {fe : Buf (Elt F) (eV.view.loc (V d c i))} {fl : Buf (Elt F) (lV.view.loc (V d c i))} {fd : Buf (Elt F) (rV.view.loc (V d c i))}
    {w : ℕ → BitVec 32} {hp : (V d c i : Thread nD τ).2.kind = .scVector} {hn : S128.numel = S128x128.size (gathers_S1000000x128_S128x128).axis'}
    {hsrc : eAll.view.WordExact} {he : (EltTy.f32).bits = 32} {hsp : Space.hbm = .hbm ∨ Space.hbm = .shared} {hr : S1000000x128.StreamRows 0}
    {α : Type} {k : PUnit → Prog (TpuEff nD τ sig (Elt F) Λ' (V d c i : Thread nD τ).2) α} {Q : α → sProp 𝕄}
    (hw : ∀ x : S128.Idx, (listAt lV off inb).view.read (Elt F) fl x = w (x 0).val)
    (hlt : ∀ k : ℕ, k < 128 → (w k).toNat < 1000000) :
    iprop((rV.view.loc (V d c i) ↦[rV.view.set]{fullShare} fd) ∗ (eV.view.loc (V d c i) ↦{q} fe) ∗ (lV.view.loc (V d c i) ↦{qo} fl)
        ∗ semVal (V d c i, SemLoc.dma sem) 0)
      ⊢ iprop((Pend d c i lV rV sem q qo fe fl (chunkVal fe w) -∗ wp frame (wpE defs' 𝒱' (V d c i) bd) Set.univ (k ⟨⟩) Q)
          -∗ wp frame (wpE defs' 𝒱' (V d c i) bd) Set.univ
              (SparseCore.enqueueIndirectGather hp eAll rV gathers_S1000000x128_S128x128 (listAt lV off inb) hn sem hsrc he hsp hr >>= k) Q) := by
  have hin : ∀ x, ((listAt lV off inb).view.read (Elt F) fl x).toNat < S1000000x128.size gathers_S1000000x128_S128x128.axis := by
    intro x; rw [hw]; exact hlt _ (x 0).isLt
  have hpay := payload_eq d c i (offs := listAt lV off inb) fe fl w hw hin
  iintro ⟨Hr, He, Hl, Hv⟩ Hk
  ihave He' := (pointsTo_split_subset (q := q) (f := fe) (S := Finset.univ) (Finset.subset_univ eAll.view.set)).1 $$ He
  icases He' with ⟨He, Her⟩
  ihave Hl' := (pointsTo_split_subset (q := qo) (f := fl) (S := Finset.univ) (Finset.subset_univ (listAt lV off inb).view.set)).1 $$ Hl
  icases Hl' with ⟨Hl, Hlr⟩
  iapply (SparseCore.wp_indirectGatherLocal countersEmb 𝒱' (V d c i) bd (hg := gathers_S1000000x128_S128x128) (default : HIx 2)
      rV.view.dmaCredit (gather_credit rV _) numel_pos hin) $$ [Hr He Hl Hv]
  · isplitl [He]; · iexact He
    isplitl [Hr]; · iexact Hr
    isplitl [Hl]; · iexact Hl
    iexact Hv
  iintro Hf
  iapply Hk
  unfold Pend
  iapply (Transfers.Flight_mono countersEmb (V d c i) (landed_of d c i (q := q) (qo := qo) (fe := fe) (fl := fl) (inb := inb)
    ((View.read_write_univ _ _).trans hpay)))
  iapply flight_frame
  isplitl [Hf]; · iexact Hf
  isplitl [Her]; · iexact Her
  iexact Hlr

/-- The wait for a chunk: its rows, the shares lent, its semaphore at zero again. -/
theorem wp_landed {sl : Shape} {lV : Memref sig .scVector .vmem sl .i32} {rV : Memref sig .scVector .vmem S128x128 .f32} {sem : DmaSem sig}
    {q qo : PosShare TreeShare} {fe : Buf (Elt F) (eV.view.loc (V d c i))} {fl : Buf (Elt F) (lV.view.loc (V d c i))} {v : S128x128.Idx → Elt F .f32}
    {hsrc : eAll.view.WordExact} {hdst : rV.view.WordExact} {O : CellTallies nD τ sig (HIx 2)} {W : Waits sig (HIx 2)}
    {α : Type} {k : PUnit → Prog (TpuEff nD τ sig (Elt F) Λ' (V d c i : Thread nD τ).2) α} {Q : α → sProp 𝕄} :
    iprop(Pend d c i lV rV sem q qo fe fl v ∗ owes (V d c i) O W ∗ Transfers.MayWaits (V d c i) (default : HIx 2) O)
      ⊢ iprop((iprop(Landed d c i lV rV q qo fe fl v ∗ semVal (V d c i, SemLoc.dma sem) 0
                ∗ owes (V d c i) O (insert (SemLoc.dma sem, (default : HIx 2)) W)) -∗ wp frame (wpE defs' 𝒱' (V d c i) bd) Set.univ (k ⟨⟩) Q)
          -∗ wp frame (wpE defs' 𝒱' (V d c i) bd) Set.univ (SparseCore.waitIndirectGather (p := (V d c i : Thread nD τ).2) sem eAll rV hsrc hdst >>= k) Q) := by
  unfold Pend
  iintro ⟨Hf, HO, Hmw⟩ Hk
  iapply (Transfers.wp_waitLocalO countersEmb 𝒱' (V d c i) bd (default : HIx 2) (rfl : rV.view.dmaCredit = _)) $$ [Hf HO Hmw]
  · isplitl [Hf]; · iexact Hf
    isplitl [HO]; · iexact HO
    iapply (Transfers.MayWaits.elim (SemLoc.dma sem)) $$ Hmw
  iexact Hk

end Rules

end Cert.Proof.Bag

end
-- ==== Proof.Single.lean ====
/-
  The first SparseCore call, one tile of it: the tile copies its 512 words of the index list, gathers the rows they name
  in four chunks of 128 rows and writes each chunk to its place in the pooled table.
-/
module

public import proofs.«01_k».proof.Proof.Gather

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 2) (Elt F) ℕ UU ℕ

/-- The word at place `b + k` of the index list. -/
def wordFrom (fx : S819200.Idx → BitVec 32) (b k : ℕ) : BitVec 32 := if h : b + k < 819200 then fx (at1 ⟨b + k, h⟩) else 0

theorem wordFrom_eq (fx : S819200.Idx → BitVec 32) {b k : ℕ} (h : b + k < 819200) : wordFrom fx b k = fx (at1 ⟨b + k, h⟩) := dif_pos h

theorem wordFrom_lt (fx : S819200.Idx → BitVec 32) (hx : ∀ j, (fx j).toNat < 1000000) (b k : ℕ) : (wordFrom fx b k).toNat < 1000000 := by
  unfold wordFrom; split
  · exact hx _
  · decide

section

variable (d : Dev nD) (L : grid0.Coords)

/-- The tile's first word. -/
abbrev base0 : ℕ := 1024 * (L 1).val + 512 * (L 0).val

abbrev c0 : Fin τ.nSC := (L 0).castLE hcore0
abbrev i0 : Fin τ.nSub := (L 1).castLE hsub0

local notation "𝓉" => (V d (c0 L) (i0 L) : Thread nD τ)

abbrev xV : Memref sig .scVector .hbm S819200 .i32 := Memref.whole main_arg0_scv
abbrev pV : Memref sig .scVector .hbm S16384x128 .f32 := Memref.whole main_v0_scv
abbrev lV0 : Memref sig .scVector .vmem S512 .i32 := Memref.whole cc0_scratch0
abbrev rA : Memref sig .scVector .vmem S128x128 .f32 := Memref.whole cc0_scratch1
abbrev rB : Memref sig .scVector .vmem S128x128 .f32 := Memref.whole cc0_scratch2
abbrev rC : Memref sig .scVector .vmem S128x128 .f32 := Memref.whole cc0_scratch3
abbrev rD : Memref sig .scVector .vmem S128x128 .f32 := Memref.whole cc0_scratch4
abbrev rE : Memref sig .scVector .vmem S128x128 .f32 := Memref.whole cc0_scratch5

/-- The tile's words of the index list, and its four places in the pooled table. -/
abbrev xAt : Memref sig .scVector .hbm S512 .i32 := xV.slice (Rect.unit (s := S819200) (k0_off1 L) S512.size (k0_off1_inb L)) (fun _ => rfl)
abbrev pAt0 : Memref sig .scVector .hbm S128x128 .f32 := pV.slice (Rect.unit (s := S16384x128) (k0_off2 L 0#32) S128x128.size (k0_off2_inb L 0)) (fun _ => rfl)
abbrev pAt1 : Memref sig .scVector .hbm S128x128 .f32 := pV.slice (Rect.unit (s := S16384x128) (k0_off2 L 128#32) S128x128.size (k0_off2_inb L 1)) (fun _ => rfl)
abbrev pAt2 : Memref sig .scVector .hbm S128x128 .f32 := pV.slice (Rect.unit (s := S16384x128) (k0_off2 L 256#32) S128x128.size (k0_off2_inb L 2)) (fun _ => rfl)
abbrev pAt3 : Memref sig .scVector .hbm S128x128 .f32 := pV.slice (Rect.unit (s := S16384x128) (k0_off2 L 384#32) S128x128.size (k0_off2_inb L 3)) (fun _ => rfl)

/-- The tile's part of the pooled table, at `f`. -/
def poolPts (f : Buf (Elt F) (pLoc d)) : sProp 𝕄 :=
  iprop(((pAt0 L).view.loc 𝓉 ↦[(pAt0 L).view.set]{fullShare} f) ∗ ((pAt1 L).view.loc 𝓉 ↦[(pAt1 L).view.set]{fullShare} f)
    ∗ ((pAt2 L).view.loc 𝓉 ↦[(pAt2 L).view.set]{fullShare} f) ∗ ((pAt3 L).view.loc 𝓉 ↦[(pAt3 L).view.set]{fullShare} f))

theorem xAt_read (fx : Buf (Elt F) (xLoc d)) (x : S512.Idx) :
    (xAt L).view.read (Elt F) fx x = wordFrom fx (base0 L) (x 0).val := by
  have hb := k0_off1_inb L 0
  have hx := (x 0).isLt
  have he : k0_off1 L 0 = 1024 * (L 1).val + 512 * (L 0).val := by rw [k0_off1_eq]; rfl
  have hlt : 1024 * (L 1).val + 512 * (L 0).val + (x 0).val < 819200 := by
    have h1 : S512.size 0 = 512 := rfl
    have h2 : S819200.size 0 = 819200 := rfl
    have h3 : (x 0).val < 512 := hx
    rw [he, h1, h2] at hb; omega
  rw [wordFrom_eq fx hlt]
  refine congrArg fx ?_
  funext a; match a with
  | 0 => exact Fin.ext (by show k0_off1 L 0 + 1 * (x 0).val = base0 L + (x 0).val; rw [he, Nat.one_mul])

/-- A chunk's place in the pooled table reads the chunk's rows from `pooledVal`. -/
theorem pAt_read (fx : S819200.Idx → BitVec 32) (e : S1000000x128.Idx → Elt F .f32) (n : Fin 4) (w : BitVec 32)
    (hw : w = BitVec.ofNat 32 (128 * n.val))
    (inb : ∀ a, (k0_off2 L w) a + S128x128.size a ≤ S16384x128.size a) :
    (pV.slice (Rect.unit (s := S16384x128) (k0_off2 L w) S128x128.size inb) (fun _ => rfl)).view.read (Elt F) (pooledVal (F := F) fx e)
      = chunkVal e (fun k => wordFrom fx (base0 L) (128 * n.val + k)) := by
  subst hw
  have he : k0_off2 L (BitVec.ofNat 32 (128 * n.val)) 0 = 1024 * (L 1).val + 512 * (L 0).val + 128 * n.val := by rw [k0_off2_eq]; rfl
  have he1 : k0_off2 L (BitVec.ofNat 32 (128 * n.val)) 1 = 0 := by rw [k0_off2_eq]; rfl
  funext j
  have hb := inb 0
  have h1 : S128x128.size 0 = 128 := rfl
  have h2 : S16384x128.size 0 = 16384 := rfl
  have h3 : (j 0).val < 128 := (j 0).isLt
  rw [he, h1, h2] at hb
  have hlt : 1024 * (L 1).val + 512 * (L 0).val + (128 * n.val + (j 0).val) < 819200 := by omega
  show pooledVal (F := F) fx e ((Rect.unit (s := S16384x128) (k0_off2 L (BitVec.ofNat 32 (128 * n.val))) S128x128.size inb).emb j) = _
  show e _ = e (at2 (rowOfWord (wordFrom fx (base0 L) (128 * n.val + (j 0).val))) (j 1))
  rw [wordFrom_eq fx hlt]
  refine congrArg e ?_
  funext a; match a with
  | 0 =>
    refine congrArg (fun z => rowOfWord (fx z)) ?_
    funext b; match b with
    | 0 => exact Fin.ext (by
        show k0_off2 L (BitVec.ofNat 32 (128 * n.val)) 0 + 1 * (j 0).val = 1024 * (L 1).val + 512 * (L 0).val + (128 * n.val + (j 0).val)
        rw [he]; omega)
  | 1 => exact Fin.ext (by
        show k0_off2 L (BitVec.ofNat 32 (128 * n.val)) 1 + 1 * (j 1).val = (j 1).val
        rw [he1]; omega)

/-! ## The tile's own buffers and semaphores -/

abbrev cell (s : DmaSem sig) : GSem nD τ sig := (𝓉, .dma s)

def sems0 : List (DmaSem sig) := [cc0_scratch6.sem, cc0_scratch7.sem, cc0_scratch8.sem, cc0_scratch9.sem,
  cc0_scoped0.sem, cc0_scoped1.sem, cc0_scoped2.sem, cc0_scoped3.sem, cc0_scoped4.sem]

theorem ownSems0_V : ∃ X : sProp 𝕄, (ownSems0 𝓉 : sProp 𝕄)
    = iprop(semVal (𝓉, .dma cc0_scratch6.sem) 0 ∗ semVal (𝓉, .dma cc0_scratch7.sem) 0 ∗ semVal (𝓉, .dma cc0_scratch8.sem) 0
        ∗ semVal (𝓉, .dma cc0_scratch9.sem) 0 ∗ semVal (𝓉, .dma cc0_scoped0.sem) 0 ∗ semVal (𝓉, .dma cc0_scoped1.sem) 0
        ∗ semVal (𝓉, .dma cc0_scoped2.sem) 0 ∗ semVal (𝓉, .dma cc0_scoped3.sem) 0 ∗ semVal (𝓉, .dma cc0_scoped4.sem) 0 ∗ X) := by
  unfold SparseCore.Cfg.ownSems0
  refine ⟨_, (bigSep_take (fun g => semVal g 0) (sems0.map fun s => ((𝓉, SemLoc.dma s) : GSem nD τ sig)) _ ?_ ?_).trans rfl⟩
  · refine List.Nodup.map (fun a b h => ?_) (by decide)
    exact SemLoc.dma.inj (Prod.mk.inj h).2
  · intro g hg
    obtain ⟨s, hs, rfl⟩ := List.mem_map.mp hg
    refine mem_ownCells.mpr ⟨rfl, ?_⟩
    show (SemLoc.dma s : SemLoc sig).isScoped .scVector = true
    clear hg; revert hs s; decide

def bufs0 : List (Ref sig .scVector) := [cc0_scratch0, cc0_scratch1, cc0_scratch2, cc0_scratch3, cc0_scratch4]

theorem bufs0_nodup : bufs0.Nodup := by decide

theorem ownBufs_V : ∃ X : sProp 𝕄, (ownBufs 𝓉 : sProp 𝕄)
    = iprop((∃ f, (𝓉).loc cc0_scratch0 ↦{fullShare} f) ∗ (∃ f, (𝓉).loc cc0_scratch1 ↦{fullShare} f) ∗ (∃ f, (𝓉).loc cc0_scratch2 ↦{fullShare} f)
        ∗ (∃ f, (𝓉).loc cc0_scratch3 ↦{fullShare} f) ∗ (∃ f, (𝓉).loc cc0_scratch4 ↦{fullShare} f) ∗ X) := by
  unfold SparseCore.Cfg.ownBufs
  refine ⟨_, (bigSep_take _ (bufs0.map fun b => (Proc.scVector (c0 L) (i0 L)).devRef b) _ ?_ ?_).trans rfl⟩
  · exact List.Nodup.map (Proc.devRef_injective _) bufs0_nodup
  · intro g hg
    obtain ⟨s, hs, rfl⟩ := List.mem_map.mp hg
    refine SparseCore.Cfg.mem_ownRefs_of_owner ?_
    simp only [bufs0, List.mem_cons, List.mem_nil_iff] at hs
    rcases hs with rfl | rfl | rfl | rfl | rfl | h
    iterate 5 rfl
    exact h.elim

/-! ## The body -/

omit [FloatOps F] [Named F] in
theorem pts_whole (r : Ref sig .scVector) (f : Buf (Elt F) ((𝓉).loc r)) :
    ((𝓉).loc r ↦{fullShare} f : sProp 𝕄) = (Memref.whole r).view.loc 𝓉 ↦[(Memref.whole r).view.set]{fullShare} f := by
  rw [show (Memref.whole r).view.set = Finset.univ from View.set_whole _]

/-- A place filled with what `g` reads there holds `g`. -/
theorem place_filled {s : Shape} (pm : Memref sig .scVector .hbm s .f32) (fp g : Buf (Elt F) (pm.view.loc 𝓉)) (w : s.Idx → Elt F .f32)
    (h : pm.view.read (Elt F) g = w) :
    (pm.view.loc 𝓉 ↦[pm.view.set]{fullShare} pm.view.writes (Elt F) fp [⟨Rect.whole s, w⟩] : sProp 𝕄)
      ⊢ pm.view.loc 𝓉 ↦[pm.view.set]{fullShare} g := by
  refine Entails.of_eq (pointsTo_congr fun i hi => ?_)
  rw [← View.write_univ_eq_writes_whole, View.writes_nil]
  exact pts_filled pm.view fp g w h i hi

/-- The index list after its copy: the tile's words, whatever contents spell them. -/
theorem list_filled (fl : Buf (Elt F) (lV0.view.loc 𝓉)) (fx : Buf (Elt F) (xLoc d)) (w : S512.Idx → Elt F .i32)
    (hw : w = (xAt L).view.read (Elt F) fx) :
    (lV0.view.loc 𝓉 ↦{fullShare} View.write (Elt F) lV0.view fl w Finset.univ : sProp 𝕄)
      ⊢ iprop(∃ g, ⌜∀ x : S512.Idx, lV0.view.read (Elt F) g x = wordFrom fx (base0 L) (x 0).val⌝ ∗ lV0.view.loc 𝓉 ↦{fullShare} g) := by
  iintro H
  iexists _; isplitr
  swap; · iexact H
  ipureintro; intro x
  rw [View.read_write_univ, hw, xAt_read]

/-- The words of a chunk, read through the slice of the list that starts at it. -/
theorem chunk_words {g : Buf (Elt F) (lV0.view.loc 𝓉)} {fx : S819200.Idx → BitVec 32}
    (hg : ∀ x : S512.Idx, lV0.view.read (Elt F) g x = wordFrom fx (base0 L) (x 0).val) (off : Fin 1 → ℕ) (n : ℕ) (hn : off 0 = 128 * n)
    (inb : ∀ a, off a + S128.size a ≤ (⟨1, ![512]⟩ : Shape).size a) (x : S128.Idx) :
    (listAt lV0 off inb).view.read (Elt F) g x = (fun k => wordFrom fx (base0 L) (128 * n + k)) (x 0).val := by
  refine (listAt_read d (c0 L) (i0 L) lV0 off inb g x).trans ?_
  refine (hg _).trans ?_
  show wordFrom fx (base0 L) (off 0 + (x 0).val) = _
  rw [hn]

set_option maxHeartbeats 4000000 in
/-- One tile of the first call: it ends with its part of the pooled table at `pooledVal`. -/
theorem tile_body0 (q qe : PosShare TreeShare) (fx : Buf (Elt F) (xLoc d)) (fe : Buf (Elt F) (eLoc d)) (fp : Buf (Elt F) (pLoc d))
    (hx : ∀ j : S819200.Idx, (fx j : BitVec 32).toNat < 1000000)
    (O : CellTallies nD τ sig (HIx 2)) (W : Waits sig (HIx 2)) (hO : ∀ g, O g none = 0) :
    iprop(levAts (K (F := F)).L (K (F := F)).lev ∗ emp
        ∗ ((xLoc d ↦{q} fx) ∗ (eLoc d ↦{qe} fe) ∗ poolPts d L fp)
        ∗ scopedBufs 𝓉 ∗ scopedSems0 𝓉 ∗ owes 𝓉 O W)
      ⊢ wp frame (wpE (defs₀ (F := F)) 𝒱₀ 𝓉 none) Set.univ
          (cc0__single_body L xV (Memref.isWhole_whole _) eV (Memref.isWhole_whole _) pV (Memref.isWhole_whole _)
            lV0 (Memref.isWhole_whole _) rA (Memref.isWhole_whole _) rB (Memref.isWhole_whole _) rC (Memref.isWhole_whole _)
            rD (Memref.isWhole_whole _) rE (Memref.isWhole_whole _) cc0_scratch6 cc0_scratch7 cc0_scratch8 cc0_scratch9 cc0_scratch10
            cc0_scoped0 cc0_scoped1 cc0_scoped2 cc0_scoped3 cc0_scoped4)
          fun _ => iprop(((xLoc d ↦{q} fx) ∗ (eLoc d ↦{qe} fe) ∗ poolPts d L (pooledVal fx fe))
            ∗ scopedBufs 𝓉 ∗ scopedSems0 𝓉
            ∗ ∃ W', ⌜∀ p ∈ W', p ∈ W ∨ p.2 = none⌝ ∗ owes 𝓉 O W') := by
  simp only [cc0__single_body_eq_skeleton]; unfold cc0__single_body_skel
  simp only [k0_part1_eq_skeleton]; unfold k0_part1_skel
  simp only [bind_assoc, pure_bind]
  obtain ⟨Xs, hXs⟩ := ownSems0_V (F := F) d L
  obtain ⟨Xb, hXb⟩ := ownBufs_V (F := F) d L
  rw [(K (F := F)).scopedBufs_V facts d (c0 L) (i0 L), SparseCore.Cfg.scopedSems0_V (Val := Elt F) d (c0 L) (i0 L), hXs, hXb]
  unfold poolPts
  iintro ⟨#Hlv, -, ⟨Hx, He, Hp0, Hp1, Hp2, Hp3⟩, ⟨⟨%fl, Hl⟩, ⟨%f1, Hr1⟩, ⟨%f2, Hr2⟩, ⟨%f3, Hr3⟩, ⟨%f4, Hr4⟩, Hbufs⟩,
    ⟨Hs6, Hs7, Hs8, Hs9, Hq0, Hq1, Hq2, Hq3, Hq4, Hsems⟩, HO⟩
  ihave Hmw := (show levAts (K (F := F)).L (K (F := F)).lev ⊢ Transfers.MayWaits 𝓉 (default : HIx 2) O from
    (K (F := F)).mayWaits_none (thr := 𝓉) hO) $$ Hlv
  ihave Hx := (Entails.of_eq (show (xLoc d ↦{q} fx : sProp 𝕄) = xV.view.loc 𝓉 ↦{q} fx from rfl)) $$ Hx
  ihave He := (Entails.of_eq (show (eLoc d ↦{qe} fe : sProp 𝕄) = eV.view.loc 𝓉 ↦{qe} fe from rfl)) $$ He
  ihave Hl := (Entails.of_eq (show ((𝓉).loc cc0_scratch0 ↦{fullShare} fl : sProp 𝕄) = lV0.view.loc 𝓉 ↦{fullShare} fl from rfl)) $$ Hl
  sl_exec
  ihave Hl := (list_filled d L fl fx (tile_body0.sl.dma0 d L fx) rfl) $$ Hl
  icases Hl with ⟨%g, %hg, Hl⟩
  ihave Hl := (Entails.of_eq (pieces_four (ℓ := lV0.view.loc 𝓉) g fullShare)) $$ Hl
  icases Hl with ⟨Hl0, Hl1, Hl2, Hl3⟩
  ihave He := (Entails.of_eq (pieces_four (ℓ := eV.view.loc 𝓉) fe qe)) $$ He
  icases He with ⟨He0, He1, He2, He3⟩
  iapply (wp_gather d (c0 L) (i0 L) defs₀ 𝒱₀ none (lV := lV0) (w := fun k => wordFrom fx (base0 L) (128 * 0 + k))
    (chunk_words d L hg _ 0 rfl _) (fun k _ => wordFrom_lt fx hx _ _)) $$ [Hr1 He0 Hl0 Hs6]
  · isplitl [Hr1]; · iapply (Entails.of_eq (pts_whole d L cc0_scratch1 f1)); iexact Hr1
    isplitl [He0]; · iexact He0
    isplitl [Hl0]; · iexact Hl0
    iexact Hs6
  iintro Hf0
  iapply (wp_gather d (c0 L) (i0 L) defs₀ 𝒱₀ none (lV := lV0) (w := fun k => wordFrom fx (base0 L) (128 * 1 + k))
    (chunk_words d L hg _ 1 rfl _) (fun k _ => wordFrom_lt fx hx _ _)) $$ [Hr2 He1 Hl1 Hs7]
  · isplitl [Hr2]; · iapply (Entails.of_eq (pts_whole d L cc0_scratch2 f2)); iexact Hr2
    isplitl [He1]; · iexact He1
    isplitl [Hl1]; · iexact Hl1
    iexact Hs7
  iintro Hf1
  iapply (wp_gather d (c0 L) (i0 L) defs₀ 𝒱₀ none (lV := lV0) (w := fun k => wordFrom fx (base0 L) (128 * 2 + k))
    (chunk_words d L hg _ 2 rfl _) (fun k _ => wordFrom_lt fx hx _ _)) $$ [Hr3 He2 Hl2 Hs8]
  · isplitl [Hr3]; · iapply (Entails.of_eq (pts_whole d L cc0_scratch3 f3)); iexact Hr3
    isplitl [He2]; · iexact He2
    isplitl [Hl2]; · iexact Hl2
    iexact Hs8
  iintro Hf2
  iapply (wp_gather d (c0 L) (i0 L) defs₀ 𝒱₀ none (lV := lV0) (w := fun k => wordFrom fx (base0 L) (128 * 3 + k))
    (chunk_words d L hg _ 3 rfl _) (fun k _ => wordFrom_lt fx hx _ _)) $$ [Hr4 He3 Hl3 Hs9]
  · isplitl [Hr4]; · iapply (Entails.of_eq (pts_whole d L cc0_scratch4 f4)); iexact Hr4
    isplitl [He3]; · iexact He3
    isplitl [Hl3]; · iexact Hl3
    iexact Hs9
  iintro Hf3
  iapply (wp_landed d (c0 L) (i0 L) defs₀ 𝒱₀ none) $$ [Hf0 HO]
  · isplitl [Hf0]; · iexact Hf0
    isplitl [HO]; · iexact HO
    iexact Hmw
  unfold Landed Rows
  iintro ⟨⟨⟨%g1, %hg1, Hr1⟩, He0, Hl0⟩, Hs6, HO⟩
  sl_exec
  iapply (wp_landed d (c0 L) (i0 L) defs₀ 𝒱₀ none) $$ [Hf1 HO]
  · isplitl [Hf1]; · iexact Hf1
    isplitl [HO]; · iexact HO
    iexact Hmw
  unfold Landed Rows
  iintro ⟨⟨⟨%g2, %hg2, Hr2⟩, He1, Hl1⟩, Hs7, HO⟩
  sl_exec
  iapply (wp_landed d (c0 L) (i0 L) defs₀ 𝒱₀ none) $$ [Hf2 HO]
  · isplitl [Hf2]; · iexact Hf2
    isplitl [HO]; · iexact HO
    iexact Hmw
  unfold Landed Rows
  iintro ⟨⟨⟨%g3, %hg3, Hr3⟩, He2, Hl2⟩, Hs8, HO⟩
  sl_exec
  iapply (wp_landed d (c0 L) (i0 L) defs₀ 𝒱₀ none) $$ [Hf3 HO]
  · isplitl [Hf3]; · iexact Hf3
    isplitl [HO]; · iexact HO
    iexact Hmw
  unfold Landed Rows
  iintro ⟨⟨⟨%g4, %hg4, Hr4⟩, He3, Hl3⟩, Hs9, HO⟩
  sl_exec
  sl_step
  ihave Hp0 := (place_filled d L (pAt0 L) fp (pooledVal (F := F) fx fe) (tile_body0.sl.dma0_1 g1)
    ((pAt_read L fx fe 0 _ rfl _).trans hg1.symm)) $$ Hp0
  ihave Hp1 := (place_filled d L (pAt1 L) fp (pooledVal (F := F) fx fe) (tile_body0.sl.dma0_2 g2)
    ((pAt_read L fx fe 1 _ rfl _).trans hg2.symm)) $$ Hp1
  ihave Hp2 := (place_filled d L (pAt2 L) fp (pooledVal (F := F) fx fe) (tile_body0.sl.dma0_3 g3)
    ((pAt_read L fx fe 2 _ rfl _).trans hg3.symm)) $$ Hp2
  ihave Hp3 := (place_filled d L (pAt3 L) fp (pooledVal (F := F) fx fe) (tile_body0.sl.dma0_4 g4)
    ((pAt_read L fx fe 3 _ rfl _).trans hg4.symm)) $$ Hp3
  isplitl [Hx He0 He1 He2 He3 Hp0 Hp1 Hp2 Hp3]
  · isplitl [Hx]; · iexact Hx
    isplitl [He0 He1 He2 He3]
    · iapply (Entails.of_eq (pieces_four (ℓ := eV.view.loc 𝓉) fe qe).symm)
      isplitl [He0]; · iexact He0
      isplitl [He1]; · iexact He1
      isplitl [He2]; · iexact He2
      iexact He3
    isplitl [Hp0]; · iexact Hp0
    isplitl [Hp1]; · iexact Hp1
    isplitl [Hp2]; · iexact Hp2
    iexact Hp3
  isplitl [Hl0 Hl1 Hl2 Hl3 Hr1 Hr2 Hr3 Hr4 Hbufs]
  · isplitl [Hl0 Hl1 Hl2 Hl3]
    · iexists g
      iapply (Entails.of_eq (pieces_four (ℓ := lV0.view.loc 𝓉) g fullShare).symm)
      isplitl [Hl0]; · iexact Hl0
      isplitl [Hl1]; · iexact Hl1
      isplitl [Hl2]; · iexact Hl2
      iexact Hl3
    isplitl [Hr1]; · iexists g1; iapply (Entails.of_eq (pts_whole d L cc0_scratch1 g1).symm); iexact Hr1
    isplitl [Hr2]; · iexists g2; iapply (Entails.of_eq (pts_whole d L cc0_scratch2 g2).symm); iexact Hr2
    isplitl [Hr3]; · iexists g3; iapply (Entails.of_eq (pts_whole d L cc0_scratch3 g3).symm); iexact Hr3
    isplitl [Hr4]; · iexists g4; iapply (Entails.of_eq (pts_whole d L cc0_scratch4 g4).symm); iexact Hr4
    iexact Hbufs
  isplitl [Hs6 Hs7 Hs8 Hs9 Hq0 Hq1 Hq2 Hq3 Hq4 Hsems]
  · isplitl [Hs6]; · iexact Hs6
    isplitl [Hs7]; · iexact Hs7
    isplitl [Hs8]; · iexact Hs8
    isplitl [Hs9]; · iexact Hs9
    isplitl [Hq0]; · iexact Hq0
    isplitl [Hq1]; · iexact Hq1
    isplitl [Hq2]; · iexact Hq2
    isplitl [Hq3]; · iexact Hq3
    isplitl [Hq4]; · iexact Hq4
    iexact Hsems
  iexists _; isplitr
  swap; · iexact HO
  ipureintro; intro p hp
  iterate 9
    rcases Finset.mem_insert.mp hp with hp | hp
    · exact .inr (hp ▸ rfl)
  exact .inl hp

end

end Cert.Proof.Bag

end
-- ==== Proof.Block.lean ====
/-
  One block of eight rows, as the second SparseCore call sums it: each of the eight accumulators of sixteen lanes gains
  its lanes of the eight rows, one row after the other. The five row buffers go through the same text, so the run is
  written once, over any row buffer.
-/
module

public import proofs.«01_k».proof.Proof.Single
public import Idealize.ShloMosaic.Lib.ValueLayout

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 2) (Elt F) ℕ UU ℕ

section

variable (d : Dev nD) (L : grid1.Coords)

abbrev c1 : Fin τ.nSC := (L 0).castLE hcore1
abbrev i1 : Fin τ.nSub := (L 1).castLE hsub1

local notation "𝓉" => (V d (c1 L) (i1 L) : Thread nD τ)

abbrev sV : Memref sig .scVector .hbm S32x128 .f32 := Memref.whole main_v1_scv
abbrev lV1 : Memref sig .scVector .vmem S25088 .i32 := Memref.whole cc1_scratch0
abbrev aV : Memref sig .scVector .vmem S128 .f32 := Memref.whole cc1_scratch6
abbrev q0 : Memref sig .scVector .vmem S128x128 .f32 := Memref.whole cc1_scratch1
abbrev q1 : Memref sig .scVector .vmem S128x128 .f32 := Memref.whole cc1_scratch2
abbrev q2 : Memref sig .scVector .vmem S128x128 .f32 := Memref.whole cc1_scratch3
abbrev q3 : Memref sig .scVector .vmem S128x128 .f32 := Memref.whole cc1_scratch4
abbrev q4 : Memref sig .scVector .vmem S128x128 .f32 := Memref.whole cc1_scratch5

variable (F) in
/-- The eight accumulators. -/
abbrev Acc : Type := FVec F S16 .f32 × FVec F S16 .f32 × FVec F S16 .f32 × FVec F S16 .f32 × FVec F S16 .f32 × FVec F S16 .f32 × FVec F S16 .f32 × FVec F S16 .f32

abbrev accT (a : Fin 8 → FVec F S16 .f32) : Acc F := (a 0, a 1, a 2, a 3, a 4, a 5, a 6, a 7)

/-- The block's text over the row buffer `rV`. -/
abbrev blk (rV : Memref sig .scVector .vmem S128x128 .f32) (h : rV.IsWhole) (t : Fin k1_t2_loop.trips) (a : Acc F) :
    Prog (TpuEff nD τ sig (Elt F) Λ₀ (.scVector (c1 L) (i1 L))) (Acc F) :=
  k1_t2_body L xV (Memref.isWhole_whole _) eV (Memref.isWhole_whole _) pV (Memref.isWhole_whole _) sV (Memref.isWhole_whole _)
    lV1 (Memref.isWhole_whole _) rV h rV h rV h rV h rV h aV (Memref.isWhole_whole _)
    cc1_scratch7 cc1_scratch8 cc1_scratch9 cc1_scratch10 cc1_scratch11 cc1_scoped0 cc1_scoped1 0#32 1#32 ⟨0, by decide⟩
    a.1 a.1 a.1 a.1 a.1 a.1 a.1 a.1 t a

set_option maxRecDepth 65536 in
theorem t2_eq (r0 r1 r2 r3 r4 : Memref sig .scVector .vmem S128x128 .f32) (h0 h1 h2 h3 h4 v w t1 x0 x1 x2 x3 x4 x5 x6 x7) (t : Fin k1_t2_loop.trips)
    (a : Acc F) :
    k1_t2_body L xV (Memref.isWhole_whole _) eV (Memref.isWhole_whole _) pV (Memref.isWhole_whole _) sV (Memref.isWhole_whole _)
      lV1 (Memref.isWhole_whole _) r0 h0 r1 h1 r2 h2 r3 h3 r4 h4 aV (Memref.isWhole_whole _)
      cc1_scratch7 cc1_scratch8 cc1_scratch9 cc1_scratch10 cc1_scratch11 cc1_scoped0 cc1_scoped1 v w t1 x0 x1 x2 x3 x4 x5 x6 x7 t a
    = blk L r0 h0 t a := rfl

set_option maxRecDepth 65536 in
theorem t3_eq (r0 r1 r2 r3 r4 : Memref sig .scVector .vmem S128x128 .f32) (h0 h1 h2 h3 h4 v w t1 x0 x1 x2 x3 x4 x5 x6 x7) (t : Fin k1_t2_loop.trips)
    (a : Acc F) :
    k1_t3_body L xV (Memref.isWhole_whole _) eV (Memref.isWhole_whole _) pV (Memref.isWhole_whole _) sV (Memref.isWhole_whole _)
      lV1 (Memref.isWhole_whole _) r0 h0 r1 h1 r2 h2 r3 h3 r4 h4 aV (Memref.isWhole_whole _)
      cc1_scratch7 cc1_scratch8 cc1_scratch9 cc1_scratch10 cc1_scratch11 cc1_scoped0 cc1_scoped1 v w t1 x0 x1 x2 x3 x4 x5 x6 x7 t a
    = blk L r1 h1 t a := rfl

set_option maxRecDepth 65536 in
theorem t4_eq (r0 r1 r2 r3 r4 : Memref sig .scVector .vmem S128x128 .f32) (h0 h1 h2 h3 h4 t1 v x0 x1 x2 x3 x4 x5 x6 x7) (t : Fin k1_t2_loop.trips)
    (a : Acc F) :
    k1_t4_body L xV (Memref.isWhole_whole _) eV (Memref.isWhole_whole _) pV (Memref.isWhole_whole _) sV (Memref.isWhole_whole _)
      lV1 (Memref.isWhole_whole _) r0 h0 r1 h1 r2 h2 r3 h3 r4 h4 aV (Memref.isWhole_whole _)
      cc1_scratch7 cc1_scratch8 cc1_scratch9 cc1_scratch10 cc1_scratch11 cc1_scoped0 cc1_scoped1 t1 v x0 x1 x2 x3 x4 x5 x6 x7 t a
    = blk L r2 h2 t a := rfl

set_option maxRecDepth 65536 in
theorem t5_eq (r0 r1 r2 r3 r4 : Memref sig .scVector .vmem S128x128 .f32) (h0 h1 h2 h3 h4 t1 v x0 x1 x2 x3 x4 x5 x6 x7) (t : Fin k1_t2_loop.trips)
    (a : Acc F) :
    k1_t5_body L xV (Memref.isWhole_whole _) eV (Memref.isWhole_whole _) pV (Memref.isWhole_whole _) sV (Memref.isWhole_whole _)
      lV1 (Memref.isWhole_whole _) r0 h0 r1 h1 r2 h2 r3 h3 r4 h4 aV (Memref.isWhole_whole _)
      cc1_scratch7 cc1_scratch8 cc1_scratch9 cc1_scratch10 cc1_scratch11 cc1_scoped0 cc1_scoped1 t1 v x0 x1 x2 x3 x4 x5 x6 x7 t a
    = blk L r3 h3 t a := rfl

set_option maxRecDepth 65536 in
theorem t6_eq (r0 r1 r2 r3 r4 : Memref sig .scVector .vmem S128x128 .f32) (h0 h1 h2 h3 h4 t1 v x0 x1 x2 x3 x4 x5 x6 x7) (t : Fin k1_t2_loop.trips)
    (a : Acc F) :
    k1_t6_body L xV (Memref.isWhole_whole _) eV (Memref.isWhole_whole _) pV (Memref.isWhole_whole _) sV (Memref.isWhole_whole _)
      lV1 (Memref.isWhole_whole _) r0 h0 r1 h1 r2 h2 r3 h3 r4 h4 aV (Memref.isWhole_whole _)
      cc1_scratch7 cc1_scratch8 cc1_scratch9 cc1_scratch10 cc1_scratch11 cc1_scoped0 cc1_scoped1 t1 v x0 x1 x2 x3 x4 x5 x6 x7 t a
    = blk L r4 h4 t a := rfl

set_option maxRecDepth 65536 in
theorem t7_eq (r0 r1 r2 r3 r4 : Memref sig .scVector .vmem S128x128 .f32) (h0 h1 h2 h3 h4 x0 x1 x2 x3 x4 x5 x6 x7) (t : Fin k1_t2_loop.trips)
    (a : Acc F) :
    k1_t7_body L xV (Memref.isWhole_whole _) eV (Memref.isWhole_whole _) pV (Memref.isWhole_whole _) sV (Memref.isWhole_whole _)
      lV1 (Memref.isWhole_whole _) r0 h0 r1 h1 r2 h2 r3 h3 r4 h4 aV (Memref.isWhole_whole _)
      cc1_scratch7 cc1_scratch8 cc1_scratch9 cc1_scratch10 cc1_scratch11 cc1_scoped0 cc1_scoped1 x0 x1 x2 x3 x4 x5 x6 x7 t a
    = blk L r0 h0 t a := rfl

variable (F) in
/-- Sixteen lanes of one row. -/
def laneOf (v : S128x128.Idx → Elt F .f32) (n j : ℕ) : FVec F S16 .f32 :=
  fun l => v (at2 ⟨n % 128, Nat.mod_lt _ (by decide)⟩ ⟨(16 * j + (l 0).val) % 128, Nat.mod_lt _ (by decide)⟩)

/-- An accumulator after `k` rows from row `n` on. -/
def rowsFrom (v : S128x128.Idx → Elt F .f32) (j n : ℕ) (a : FVec F S16 .f32) : ℕ → FVec F S16 .f32
  | 0 => a
  | k + 1 => addf (rowsFrom v j n a k) (laneOf F v (n + k) j)

/-- The accumulators after `k` rows from row `n` on. -/
def accRows (v : S128x128.Idx → Elt F .f32) (n k : ℕ) (a : Acc F) : Acc F :=
  (rowsFrom v 0 n a.1 k, rowsFrom v 1 n a.2.1 k, rowsFrom v 2 n a.2.2.1 k, rowsFrom v 3 n a.2.2.2.1 k,
    rowsFrom v 4 n a.2.2.2.2.1 k, rowsFrom v 5 n a.2.2.2.2.2.1 k, rowsFrom v 6 n a.2.2.2.2.2.2.1 k, rowsFrom v 7 n a.2.2.2.2.2.2.2 k)

theorem rowsFrom_add (v : S128x128.Idx → Elt F .f32) (j n : ℕ) (a : FVec F S16 .f32) (k m : ℕ) :
    rowsFrom v j n a (k + m) = rowsFrom v j (n + k) (rowsFrom v j n a k) m := by
  induction m with
  | zero => rfl
  | succ m ih =>
    show addf (rowsFrom v j n a (k + m)) (laneOf F v (n + (k + m)) j) = addf _ (laneOf F v (n + k + m) j)
    rw [ih, Nat.add_assoc]

theorem accRows_add (v : S128x128.Idx → Elt F .f32) (k m : ℕ) (a : Acc F) :
    accRows v 0 (k + m) a = accRows v k m (accRows v 0 k a) := by
  unfold accRows
  simp only [rowsFrom_add, Nat.zero_add]

section
variable (rV : Memref sig .scVector .vmem S128x128 .f32) (g : rV.view.ty.Contents (Elt F))

theorem row_lt (t : Fin k1_t2_loop.trips) {r : ℕ} (hr : r < 8) : 8 * t.val + r < 128 := by
  have h16 : k1_t2_loop.trips = 16 := by decide
  have := t.isLt
  omega

theorem lane_eq {off : Fin 2 → ℕ} {n m : ℕ} (ho : off = ![n, m]) (inb : ∀ a, off a + (![1, 16] : Fin 2 → ℕ) a ≤ S128x128.size a)
    {j : ℕ} (hn : n < 128) (hj : m = 16 * j ∧ j < 8) :
    shapeCast S16 (rV.view.readAt (Elt F) (Rect.unit (s := S128x128) off ![1, 16] inb).toLoadRect g) shapeCasts_S1x16_S16
      = laneOf F (rV.view.read (Elt F) g) n j := by
  subst ho
  obtain ⟨rfl, hj⟩ := hj
  funext l
  refine (shapeCast_apply _ _ l (at2 (0 : Fin 1) (l 0)) ?_).trans ?_
  · rw [Shape.rowMajor_val_two, Shape.rowMajor_val_one]
    show 0 * 16 + (l 0).val = (l 0).val
    omega
  · have hl : (l 0).val < 16 := (l 0).isLt
    refine congrArg (rV.view.read (Elt F) g) (?_ : (Rect.unit (s := S128x128) ![n, 16 * j] ![1, 16] inb).emb (at2 (0 : Fin 1) (l 0)) = _)
    funext a
    match a with
    | 0 => exact Fin.ext (by show n + 1 * 0 = n % 128; omega)
    | 1 => exact Fin.ext (by show 16 * j + 1 * (l 0).val = (16 * j + (l 0).val) % 128; omega)

theorem lane_0 (t : Fin k1_t2_loop.trips) (r : ℕ) (hr : r < 8) (inb) :
    shapeCast S16 (rV.view.readAt (Elt F) (Rect.unit (s := S128x128) (k1_off3 t (BitVec.ofNat 32 r)) ![1, 16] inb).toLoadRect g) shapeCasts_S1x16_S16
      = laneOf F (rV.view.read (Elt F) g) (8 * t.val + r) 0 :=
  lane_eq rV g (k1_off3_eq t ⟨r, hr⟩) inb (row_lt t hr) (by decide)

theorem lane_1 (t : Fin k1_t2_loop.trips) (r : ℕ) (hr : r < 8) (inb) :
    shapeCast S16 (rV.view.readAt (Elt F) (Rect.unit (s := S128x128) (k1_off4 t (BitVec.ofNat 32 r)) ![1, 16] inb).toLoadRect g) shapeCasts_S1x16_S16
      = laneOf F (rV.view.read (Elt F) g) (8 * t.val + r) 1 :=
  lane_eq rV g (k1_off4_eq t ⟨r, hr⟩) inb (row_lt t hr) (by decide)

theorem lane_2 (t : Fin k1_t2_loop.trips) (r : ℕ) (hr : r < 8) (inb) :
    shapeCast S16 (rV.view.readAt (Elt F) (Rect.unit (s := S128x128) (k1_off5 t (BitVec.ofNat 32 r)) ![1, 16] inb).toLoadRect g) shapeCasts_S1x16_S16
      = laneOf F (rV.view.read (Elt F) g) (8 * t.val + r) 2 :=
  lane_eq rV g (k1_off5_eq t ⟨r, hr⟩) inb (row_lt t hr) (by decide)

theorem lane_3 (t : Fin k1_t2_loop.trips) (r : ℕ) (hr : r < 8) (inb) :
    shapeCast S16 (rV.view.readAt (Elt F) (Rect.unit (s := S128x128) (k1_off6 t (BitVec.ofNat 32 r)) ![1, 16] inb).toLoadRect g) shapeCasts_S1x16_S16
      = laneOf F (rV.view.read (Elt F) g) (8 * t.val + r) 3 :=
  lane_eq rV g (k1_off6_eq t ⟨r, hr⟩) inb (row_lt t hr) (by decide)

theorem lane_4 (t : Fin k1_t2_loop.trips) (r : ℕ) (hr : r < 8) (inb) :
    shapeCast S16 (rV.view.readAt (Elt F) (Rect.unit (s := S128x128) (k1_off7 t (BitVec.ofNat 32 r)) ![1, 16] inb).toLoadRect g) shapeCasts_S1x16_S16
      = laneOf F (rV.view.read (Elt F) g) (8 * t.val + r) 4 :=
  lane_eq rV g (k1_off7_eq t ⟨r, hr⟩) inb (row_lt t hr) (by decide)

theorem lane_5 (t : Fin k1_t2_loop.trips) (r : ℕ) (hr : r < 8) (inb) :
    shapeCast S16 (rV.view.readAt (Elt F) (Rect.unit (s := S128x128) (k1_off8 t (BitVec.ofNat 32 r)) ![1, 16] inb).toLoadRect g) shapeCasts_S1x16_S16
      = laneOf F (rV.view.read (Elt F) g) (8 * t.val + r) 5 :=
  lane_eq rV g (k1_off8_eq t ⟨r, hr⟩) inb (row_lt t hr) (by decide)

theorem lane_6 (t : Fin k1_t2_loop.trips) (r : ℕ) (hr : r < 8) (inb) :
    shapeCast S16 (rV.view.readAt (Elt F) (Rect.unit (s := S128x128) (k1_off9 t (BitVec.ofNat 32 r)) ![1, 16] inb).toLoadRect g) shapeCasts_S1x16_S16
      = laneOf F (rV.view.read (Elt F) g) (8 * t.val + r) 6 :=
  lane_eq rV g (k1_off9_eq t ⟨r, hr⟩) inb (row_lt t hr) (by decide)

theorem lane_7 (t : Fin k1_t2_loop.trips) (r : ℕ) (hr : r < 8) (inb) :
    shapeCast S16 (rV.view.readAt (Elt F) (Rect.unit (s := S128x128) (k1_off10 t (BitVec.ofNat 32 r)) ![1, 16] inb).toLoadRect g) shapeCasts_S1x16_S16
      = laneOf F (rV.view.read (Elt F) g) (8 * t.val + r) 7 :=
  lane_eq rV g (k1_off10_eq t ⟨r, hr⟩) inb (row_lt t hr) (by decide)

end

set_option maxRecDepth 65536 in
/-- One block: eight rows into the accumulators. -/
theorem block_trip (rV : Memref sig .scVector .vmem S128x128 .f32) (h : rV.IsWhole) (t : Fin k1_t2_loop.trips) (a : Acc F)
    (g : Buf (Elt F) (rV.view.loc 𝓉)) :
    (iprop(rV.view.loc 𝓉 ↦[rV.view.set]{fullShare} g) : sProp 𝕄)
    ⊢ wp frame (wpE defs₀ 𝒱₀ 𝓉 none) Set.univ (blk (F := F) L rV h t a)
        fun r => iprop((rV.view.loc 𝓉 ↦[rV.view.set]{fullShare} g) ∗ ⌜r = accRows (rV.view.read (Elt F) g) (8 * t.val) 8 a⌝) := by
  obtain ⟨a0, a1, a2, a3, a4, a5, a6, a7⟩ := a
  simp only [blk, k1_t2_body]
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  simp only [k1_part5_eq_skeleton]; unfold k1_part5_skel
  simp only [k1_part6_eq_skeleton]; unfold k1_part6_skel
  simp only [k1_part7_eq_skeleton]; unfold k1_part7_skel
  simp only [bind_assoc, pure_bind]
  iintro H
  sl_exec
  sl_step
  isplitl [H]; · iexact H
  ipureintro
  simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay286, k1_pay287, k1_pay288, k1_pay289, k1_pay290]
  have l0 : ∀ r, r < 8 → ∀ inb, shapeCast S16 (View.readAt (Elt F) rV.view (Rect.unit (s := S128x128) (k1_off3 t (BitVec.ofNat 32 r)) ![1, 16] inb).toLoadRect g) shapeCasts_S1x16_S16
      = laneOf F (rV.view.read (Elt F) g) (8 * t.val + r) 0 := fun r hr inb => lane_0 rV g t r hr inb
  have l1 : ∀ r, r < 8 → ∀ inb, shapeCast S16 (View.readAt (Elt F) rV.view (Rect.unit (s := S128x128) (k1_off4 t (BitVec.ofNat 32 r)) ![1, 16] inb).toLoadRect g) shapeCasts_S1x16_S16
      = laneOf F (rV.view.read (Elt F) g) (8 * t.val + r) 1 := fun r hr inb => lane_1 rV g t r hr inb
  have l2 : ∀ r, r < 8 → ∀ inb, shapeCast S16 (View.readAt (Elt F) rV.view (Rect.unit (s := S128x128) (k1_off5 t (BitVec.ofNat 32 r)) ![1, 16] inb).toLoadRect g) shapeCasts_S1x16_S16
      = laneOf F (rV.view.read (Elt F) g) (8 * t.val + r) 2 := fun r hr inb => lane_2 rV g t r hr inb
  have l3 : ∀ r, r < 8 → ∀ inb, shapeCast S16 (View.readAt (Elt F) rV.view (Rect.unit (s := S128x128) (k1_off6 t (BitVec.ofNat 32 r)) ![1, 16] inb).toLoadRect g) shapeCasts_S1x16_S16
      = laneOf F (rV.view.read (Elt F) g) (8 * t.val + r) 3 := fun r hr inb => lane_3 rV g t r hr inb
  have l4 : ∀ r, r < 8 → ∀ inb, shapeCast S16 (View.readAt (Elt F) rV.view (Rect.unit (s := S128x128) (k1_off7 t (BitVec.ofNat 32 r)) ![1, 16] inb).toLoadRect g) shapeCasts_S1x16_S16
      = laneOf F (rV.view.read (Elt F) g) (8 * t.val + r) 4 := fun r hr inb => lane_4 rV g t r hr inb
  have l5 : ∀ r, r < 8 → ∀ inb, shapeCast S16 (View.readAt (Elt F) rV.view (Rect.unit (s := S128x128) (k1_off8 t (BitVec.ofNat 32 r)) ![1, 16] inb).toLoadRect g) shapeCasts_S1x16_S16
      = laneOf F (rV.view.read (Elt F) g) (8 * t.val + r) 5 := fun r hr inb => lane_5 rV g t r hr inb
  have l6 : ∀ r, r < 8 → ∀ inb, shapeCast S16 (View.readAt (Elt F) rV.view (Rect.unit (s := S128x128) (k1_off9 t (BitVec.ofNat 32 r)) ![1, 16] inb).toLoadRect g) shapeCasts_S1x16_S16
      = laneOf F (rV.view.read (Elt F) g) (8 * t.val + r) 6 := fun r hr inb => lane_6 rV g t r hr inb
  have l7 : ∀ r, r < 8 → ∀ inb, shapeCast S16 (View.readAt (Elt F) rV.view (Rect.unit (s := S128x128) (k1_off10 t (BitVec.ofNat 32 r)) ![1, 16] inb).toLoadRect g) shapeCasts_S1x16_S16
      = laneOf F (rV.view.read (Elt F) g) (8 * t.val + r) 7 := fun r hr inb => lane_7 rV g t r hr inb
  simp (disch := decide) only [l0, l1, l2, l3, l4, l5, l6, l7]
  rfl

/-- Between two blocks: the row buffer as it was, the accumulators with the rows of the blocks done. -/
def blkInv (rV : Memref sig .scVector .vmem S128x128 .f32) (a : Acc F) (g : Buf (Elt F) (rV.view.loc 𝓉)) (k : ℕ) (acc : Acc F) : sProp 𝕄 :=
  iprop((rV.view.loc 𝓉 ↦[rV.view.set]{fullShare} g) ∗ ⌜acc = accRows (rV.view.read (Elt F) g) 0 (8 * k) a⌝)

/-- The rows of one chunk, block after block: all 128 rows into the accumulators. -/
theorem block_loop (rV : Memref sig .scVector .vmem S128x128 .f32) (h : rV.IsWhole) (a : Acc F)
    (g : Buf (Elt F) (rV.view.loc 𝓉)) :
    (iprop(rV.view.loc 𝓉 ↦[rV.view.set]{fullShare} g) : sProp 𝕄)
    ⊢ wp frame (wpE defs₀ 𝒱₀ 𝓉 none) Set.univ (Scf.Loop.for k1_t2_loop k1_t2_ok a (blk (F := F) L rV h))
        fun r => iprop((rV.view.loc 𝓉 ↦[rV.view.set]{fullShare} g) ∗ ⌜r = accRows (rV.view.read (Elt F) g) 0 128 a⌝) := by
  iintro H
  sl_for (blkInv d L rV a g) $$ [H]
  case region =>
    intro k acc
    unfold blkInv
    iintro ⟨H, %hacc⟩
    iapply wp_mono
    rotate_left
    · iapply (block_trip d L rV h k acc g); iexact H
    · intro r
      iintro ⟨H, %hr⟩
      isplitl [H]; · iexact H
      ipureintro
      rw [hr, hacc, ← accRows_add]; rfl
  · isplitl [H]
    · unfold blkInv
      isplitl [H]; · iexact H
      ipureintro; rfl
    iintro %r HI
    unfold blkInv
    icases HI with ⟨H, %hr⟩
    isplitl [H]; · iexact H
    ipureintro; exact hr

end

end Cert.Proof.Bag

end
-- ==== Proof.Tail.lean ====
/-
  The parts of a tile's run of the second SparseCore call: the wait for a chunk, its rows into the accumulators, the buffer sent
  for its next chunk, and one trip of the ring of five buffers.
-/
module

public import proofs.«01_k».proof.Proof.Block

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 2) (Elt F) ℕ UU ℕ

section

variable (d : Dev nD) (L : grid1.Coords)

local notation "𝓉" => (V d (c1 L) (i1 L) : Thread nD τ)

/-- The tile's first word. -/
abbrev base1 : ℕ := 50176 * (L 1).val + 25088 * (L 0).val + 16384

variable (fx : S819200.Idx → BitVec 32) (fe : S1000000x128.Idx → Elt F .f32) (g : S25088.Idx → Elt F .i32)
  (q qo : PosShare TreeShare)

/-- The rows of the tile's chunk `c`. -/
def rowsAt (fx : S819200.Idx → BitVec 32) (e : S1000000x128.Idx → Elt F .f32) (b c : ℕ) : S128x128.Idx → Elt F .f32 :=
  chunkVal e (fun k => wordFrom fx b (128 * c + k))

/-- The accumulators after `c` chunks. -/
def accAfter (fx : S819200.Idx → BitVec 32) (e : S1000000x128.Idx → Elt F .f32) (b : ℕ) (a : Acc F) : ℕ → Acc F
  | 0 => a
  | c + 1 => accRows (rowsAt fx e b c) 0 128 (accAfter fx e b a c)

/-- A row buffer at rest, with its shares and its semaphore at zero. -/
def Idle (rV : Memref sig .scVector .vmem S128x128 .f32) (sem : DmaSem sig) (q qo : PosShare TreeShare) : sProp 𝕄 :=
  iprop((∃ f, rV.view.loc 𝓉 ↦[rV.view.set]{fullShare} f) ∗ (eV.view.loc 𝓉 ↦{q} fe) ∗ (lV1.view.loc 𝓉 ↦{qo} g) ∗ semVal (𝓉, SemLoc.dma sem) 0)

/-- A row buffer whose next chunk is `c`: the chunk's rows on their way, or, past the last chunk, at rest. -/
def Slot (rV : Memref sig .scVector .vmem S128x128 .f32) (sem : DmaSem sig) (q qo : PosShare TreeShare) (c : ℕ) : sProp 𝕄 :=
  if c < 196 then Pend d (c1 L) (i1 L) lV1 rV sem q qo fe g (rowsAt fx fe (base1 L) c) else Idle d L fe g rV sem q qo

/-- What the tile still owes, with the waits it has done since `W`. -/
def Ow (O : CellTallies nD τ sig (HIx 2)) (W : Waits sig (HIx 2)) : sProp 𝕄 :=
  iprop(∃ W', ⌜∀ p ∈ W', p ∈ W ∨ p.2 = none⌝ ∗ owes 𝓉 O W')

theorem wp_landed' (O : CellTallies nD τ sig (HIx 2)) (W : Waits sig (HIx 2)) {rV : Memref sig .scVector .vmem S128x128 .f32} {sem : DmaSem sig}
    {q qo : PosShare TreeShare} {c : ℕ} (hc : c < 196) {hsrc : eAll.view.WordExact} {hdst : rV.view.WordExact}
    {α : Type} {k : PUnit → Prog (TpuEff nD τ sig (Elt F) Λ₀ 𝓉.2) α} {Q : α → sProp 𝕄} :
    iprop(Slot d L fx fe g rV sem q qo c ∗ Ow d L O W ∗ Transfers.MayWaits 𝓉 (default : HIx 2) O)
      ⊢ iprop((iprop(Rows d (c1 L) (i1 L) rV (rowsAt fx fe (base1 L) c)
                ∗ (eV.view.loc 𝓉 ↦{q} fe) ∗ (lV1.view.loc 𝓉 ↦{qo} g) ∗ semVal (𝓉, SemLoc.dma sem) 0
                ∗ Ow d L O W) -∗ wp frame (wpE defs₀ 𝒱₀ 𝓉 none) Set.univ (k ⟨⟩) Q)
          -∗ wp frame (wpE defs₀ 𝒱₀ 𝓉 none) Set.univ (SparseCore.waitIndirectGather (p := 𝓉.2) sem eAll rV hsrc hdst >>= k) Q) := by
  unfold Slot Ow
  rw [if_pos hc]
  iintro ⟨HS, ⟨%W', %hW', HO⟩, Hmw⟩ Hk
  iapply (wp_landed d (c1 L) (i1 L) defs₀ 𝒱₀ none) $$ [HS HO Hmw]
  · isplitl [HS]; · iexact HS
    isplitl [HO]; · iexact HO
    iexact Hmw
  unfold Landed
  iintro ⟨⟨Hr, He, Hl⟩, Hs, HO⟩
  iapply Hk
  isplitl [Hr]; · iexact Hr
  isplitl [He]; · iexact He
  isplitl [Hl]; · iexact Hl
  isplitl [Hs]; · iexact Hs
  iexists _; isplitr
  swap; · iexact HO
  ipureintro; intro p hp
  rcases Finset.mem_insert.mp hp with hp | hp
  · exact .inr (hp ▸ rfl)
  · exact hW' p hp

/-- The words of a chunk, read through the slice of the list that starts at it. -/
theorem chunk_words1 {g : Buf (Elt F) (lV1.view.loc 𝓉)} {fx : S819200.Idx → BitVec 32}
    (hg : ∀ x : S25088.Idx, lV1.view.read (Elt F) g x = wordFrom fx (base1 L) (x 0).val) (off : Fin 1 → ℕ) (n : ℕ) (hn : off 0 = 128 * n)
    (inb : ∀ a, off a + S128.size a ≤ (⟨1, ![25088]⟩ : Shape).size a) (x : S128.Idx) :
    (listAt lV1 off inb).view.read (Elt F) g x = (fun k => wordFrom fx (base1 L) (128 * n + k)) (x 0).val := by
  refine (listAt_read d (c1 L) (i1 L) lV1 off inb g x).trans ?_
  refine (hg _).trans ?_
  show wordFrom fx (base1 L) (off 0 + (x 0).val) = _
  rw [hn]

/-- A buffer at rest is sent for the next chunk but four, if there is one. -/
theorem wp_refire (hx : ∀ j : S819200.Idx, (fx j : BitVec 32).toNat < 1000000)
    (hg : ∀ x : S25088.Idx, lV1.view.read (Elt F) g x = wordFrom fx (base1 L) (x 0).val)
    {rV : Memref sig .scVector .vmem S128x128 .f32} {sem : DmaSem sig} {q qo : PosShare TreeShare} {c : ℕ}
    {cond : BitVec 1} {off : Fin 1 → ℕ} {inb : cond = 1#1 → ∀ a, off a + S128.size a ≤ (⟨1, ![25088]⟩ : Shape).size a}
    (hc : cond = 1#1 ↔ c + 5 < 196) (ho : cond = 1#1 → off 0 = 128 * (c + 5))
    {hp : (𝓉).2.kind = .scVector} {hn : S128.numel = S128x128.size (gathers_S1000000x128_S128x128).axis'}
    {hsrc : eAll.view.WordExact} {he : (EltTy.f32).bits = 32} {hsp : Space.hbm = .hbm ∨ Space.hbm = .shared} {hr : S1000000x128.StreamRows 0}
    {α : Type} {k : Prog (TpuEff nD τ sig (Elt F) Λ₀ 𝓉.2) α} {Q : α → sProp 𝕄} :
    iprop(Idle d L fe g rV sem q qo)
      ⊢ iprop((Slot d L fx fe g rV sem q qo (c + 5) -∗ wp frame (wpE defs₀ 𝒱₀ 𝓉 none) Set.univ k Q)
          -∗ wp frame (wpE defs₀ 𝒱₀ 𝓉 none) Set.univ
              (if h : cond = 1#1 then
                  (SparseCore.enqueueIndirectGather hp eAll rV gathers_S1000000x128_S128x128 (listAt lV1 off (inb h)) hn sem hsrc he hsp hr >>= fun _ => k)
                else k) Q) := by
  by_cases h : cond = 1#1
  · rw [dif_pos h]
    unfold Slot Idle
    rw [if_pos (hc.mp h)]
    iintro ⟨⟨%f, Hr⟩, He, Hl, Hs⟩ Hk
    iapply (wp_gather d (c1 L) (i1 L) defs₀ 𝒱₀ none (lV := lV1) (w := fun k => wordFrom fx (base1 L) (128 * (c + 5) + k))
      (chunk_words1 d L hg _ (c + 5) (ho h) _) (fun k _ => wordFrom_lt fx hx _ _)) $$ [Hr He Hl Hs]
    · isplitl [Hr]; · iexact Hr
      isplitl [He]; · iexact He
      isplitl [Hl]; · iexact Hl
      iexact Hs
    iintro Hf
    iapply Hk
    unfold rowsAt
    iexact Hf
  · rw [dif_neg h]
    unfold Slot
    rw [if_neg (fun h' => h (hc.mpr h'))]
    iintro H Hk
    iapply Hk
    iexact H

omit [FloatOps F] [Named F] in
theorem wp_after {H : sProp 𝕄} {thr : Thread nD τ} {α : Type} {p : Prog (TpuEff nD τ sig (Elt F) Λ₀ thr.2) α} {D' : Defs nD τ sig (Elt F) Λ₀}
    {Q₀ Q : α → sProp 𝕄} (h : H ⊢ wp frame (wpE D' 𝒱₀ thr none) Set.univ p Q₀) :
    H ⊢ iprop((∀ a, Q₀ a -∗ Q a) -∗ wp frame (wpE D' 𝒱₀ thr none) Set.univ p Q) := by
  iintro H Hk
  iapply (wp_mono frame _ _ (Q := fun a => iprop(Q₀ a ∗ (∀ a, Q₀ a -∗ Q a))) (fun a => by
    iintro ⟨H, Hk⟩; iapply Hk; iexact H))
  iapply (wp_frame_r frame _ _)
  isplitl [H]
  · iapply h; iexact H
  · iexact Hk

omit [FloatOps F] [Named F] in
theorem wp_then {H : sProp 𝕄} {thr : Thread nD τ} {α β : Type} {p : Prog (TpuEff nD τ sig (Elt F) Λ₀ thr.2) α} {D' : Defs nD τ sig (Elt F) Λ₀}
    {Q₀ : α → sProp 𝕄} {k : α → Prog (TpuEff nD τ sig (Elt F) Λ₀ thr.2) β} {Q : β → sProp 𝕄} (h : H ⊢ wp frame (wpE D' 𝒱₀ thr none) Set.univ p Q₀) :
    H ⊢ iprop((∀ a, Q₀ a -∗ wp frame (wpE D' 𝒱₀ thr none) Set.univ (k a) Q) -∗ wp frame (wpE D' 𝒱₀ thr none) Set.univ (p >>= k) Q) := by
  rw [wp_bind]
  exact wp_after h

theorem wp_blk (rV : Memref sig .scVector .vmem S128x128 .f32) (h : rV.IsWhole) (a : Acc F) (g : Buf (Elt F) (rV.view.loc 𝓉))
    {α : Type} {k : Acc F → Prog (TpuEff nD τ sig (Elt F) Λ₀ 𝓉.2) α} {Q : α → sProp 𝕄} :
    (iprop(rV.view.loc 𝓉 ↦[rV.view.set]{fullShare} g) : sProp 𝕄)
    ⊢ iprop(((rV.view.loc 𝓉 ↦[rV.view.set]{fullShare} g) -∗ ∀ r : Acc F, ⌜r = accRows (rV.view.read (Elt F) g) 0 128 a⌝ -∗ wp frame (wpE defs₀ 𝒱₀ 𝓉 none) Set.univ (k r) Q)
      -∗ wp frame (wpE defs₀ 𝒱₀ 𝓉 none) Set.univ (Scf.Loop.for k1_t2_loop k1_t2_ok a (blk (F := F) L rV h) >>= k) Q) := by
  rw [wp_bind]
  iintro H Hk
  iapply (wp_after (block_loop d L rV h a g)) $$ H
  iintro %r ⟨H, %hr⟩
  iapply Hk $$ H
  ipureintro; exact hr

theorem wp_block2 (v w : BitVec 32) (t1 : Fin k1_t1_loop.trips) (x0 x1 x2 x3 x4 x5 x6 : FVec F S16 .f32) (x7 : FVec F S16 .f32) (a : Acc F) (g : Buf (Elt F) (q0.view.loc 𝓉))
    {α : Type} {k : Acc F → Prog (TpuEff nD τ sig (Elt F) Λ₀ 𝓉.2) α} {Q : α → sProp 𝕄} :
    (iprop(q0.view.loc 𝓉 ↦[q0.view.set]{fullShare} g) : sProp 𝕄)
    ⊢ iprop(((q0.view.loc 𝓉 ↦[q0.view.set]{fullShare} g) -∗ ∀ r : Acc F, ⌜r = accRows (q0.view.read (Elt F) g) 0 128 a⌝ -∗ wp frame (wpE defs₀ 𝒱₀ 𝓉 none) Set.univ (k r) Q)
      -∗ wp frame (wpE defs₀ 𝒱₀ 𝓉 none) Set.univ (Scf.Loop.for k1_t2_loop k1_t2_ok a (k1_t2_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 v w t1 x0 x1 x2 x3 x4 x5 x6 x7) >>= k) Q) := by
  have e : k1_t2_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 v w t1 x0 x1 x2 x3 x4 x5 x6 x7 = blk L q0 (Memref.isWhole_whole _) := by
    funext t a; exact t2_eq L q0 q1 q2 q3 q4 _ _ _ _ _ v w t1 x0 x1 x2 x3 x4 x5 x6 x7 t a
  rw [e]
  exact wp_blk d L q0 (Memref.isWhole_whole _) a g

theorem wp_block3 (v w : BitVec 32) (t1 : Fin k1_t1_loop.trips) (x0 x1 x2 x3 x4 x5 x6 : FVec F S16 .f32) (x7 : FVec F S16 .f32) (a : Acc F) (g : Buf (Elt F) (q1.view.loc 𝓉))
    {α : Type} {k : Acc F → Prog (TpuEff nD τ sig (Elt F) Λ₀ 𝓉.2) α} {Q : α → sProp 𝕄} :
    (iprop(q1.view.loc 𝓉 ↦[q1.view.set]{fullShare} g) : sProp 𝕄)
    ⊢ iprop(((q1.view.loc 𝓉 ↦[q1.view.set]{fullShare} g) -∗ ∀ r : Acc F, ⌜r = accRows (q1.view.read (Elt F) g) 0 128 a⌝ -∗ wp frame (wpE defs₀ 𝒱₀ 𝓉 none) Set.univ (k r) Q)
      -∗ wp frame (wpE defs₀ 𝒱₀ 𝓉 none) Set.univ (Scf.Loop.for k1_t3_loop k1_t3_ok a (k1_t3_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 v w t1 x0 x1 x2 x3 x4 x5 x6 x7) >>= k) Q) := by
  have e : k1_t3_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 v w t1 x0 x1 x2 x3 x4 x5 x6 x7 = blk L q1 (Memref.isWhole_whole _) := by
    funext t a; exact t3_eq L q0 q1 q2 q3 q4 _ _ _ _ _ v w t1 x0 x1 x2 x3 x4 x5 x6 x7 t a
  rw [e]
  exact wp_blk d L q1 (Memref.isWhole_whole _) a g

theorem wp_block4 (t1 : Fin k1_t1_loop.trips) (v : BitVec 32) (x0 x1 x2 x3 x4 x5 x6 : FVec F S16 .f32) (x7 : FVec F S16 .f32) (a : Acc F) (g : Buf (Elt F) (q2.view.loc 𝓉))
    {α : Type} {k : Acc F → Prog (TpuEff nD τ sig (Elt F) Λ₀ 𝓉.2) α} {Q : α → sProp 𝕄} :
    (iprop(q2.view.loc 𝓉 ↦[q2.view.set]{fullShare} g) : sProp 𝕄)
    ⊢ iprop(((q2.view.loc 𝓉 ↦[q2.view.set]{fullShare} g) -∗ ∀ r : Acc F, ⌜r = accRows (q2.view.read (Elt F) g) 0 128 a⌝ -∗ wp frame (wpE defs₀ 𝒱₀ 𝓉 none) Set.univ (k r) Q)
      -∗ wp frame (wpE defs₀ 𝒱₀ 𝓉 none) Set.univ (Scf.Loop.for k1_t4_loop k1_t4_ok a (k1_t4_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 t1 v x0 x1 x2 x3 x4 x5 x6 x7) >>= k) Q) := by
  have e : k1_t4_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 t1 v x0 x1 x2 x3 x4 x5 x6 x7 = blk L q2 (Memref.isWhole_whole _) := by
    funext t a; exact t4_eq L q0 q1 q2 q3 q4 _ _ _ _ _ t1 v x0 x1 x2 x3 x4 x5 x6 x7 t a
  rw [e]
  exact wp_blk d L q2 (Memref.isWhole_whole _) a g

theorem wp_block5 (t1 : Fin k1_t1_loop.trips) (v : BitVec 32) (x0 x1 x2 x3 x4 x5 x6 : FVec F S16 .f32) (x7 : FVec F S16 .f32) (a : Acc F) (g : Buf (Elt F) (q3.view.loc 𝓉))
    {α : Type} {k : Acc F → Prog (TpuEff nD τ sig (Elt F) Λ₀ 𝓉.2) α} {Q : α → sProp 𝕄} :
    (iprop(q3.view.loc 𝓉 ↦[q3.view.set]{fullShare} g) : sProp 𝕄)
    ⊢ iprop(((q3.view.loc 𝓉 ↦[q3.view.set]{fullShare} g) -∗ ∀ r : Acc F, ⌜r = accRows (q3.view.read (Elt F) g) 0 128 a⌝ -∗ wp frame (wpE defs₀ 𝒱₀ 𝓉 none) Set.univ (k r) Q)
      -∗ wp frame (wpE defs₀ 𝒱₀ 𝓉 none) Set.univ (Scf.Loop.for k1_t5_loop k1_t5_ok a (k1_t5_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 t1 v x0 x1 x2 x3 x4 x5 x6 x7) >>= k) Q) := by
  have e : k1_t5_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 t1 v x0 x1 x2 x3 x4 x5 x6 x7 = blk L q3 (Memref.isWhole_whole _) := by
    funext t a; exact t5_eq L q0 q1 q2 q3 q4 _ _ _ _ _ t1 v x0 x1 x2 x3 x4 x5 x6 x7 t a
  rw [e]
  exact wp_blk d L q3 (Memref.isWhole_whole _) a g

theorem wp_block6 (t1 : Fin k1_t1_loop.trips) (v : BitVec 32) (x0 x1 x2 x3 x4 x5 x6 : FVec F S16 .f32) (x7 : FVec F S16 .f32) (a : Acc F) (g : Buf (Elt F) (q4.view.loc 𝓉))
    {α : Type} {k : Acc F → Prog (TpuEff nD τ sig (Elt F) Λ₀ 𝓉.2) α} {Q : α → sProp 𝕄} :
    (iprop(q4.view.loc 𝓉 ↦[q4.view.set]{fullShare} g) : sProp 𝕄)
    ⊢ iprop(((q4.view.loc 𝓉 ↦[q4.view.set]{fullShare} g) -∗ ∀ r : Acc F, ⌜r = accRows (q4.view.read (Elt F) g) 0 128 a⌝ -∗ wp frame (wpE defs₀ 𝒱₀ 𝓉 none) Set.univ (k r) Q)
      -∗ wp frame (wpE defs₀ 𝒱₀ 𝓉 none) Set.univ (Scf.Loop.for k1_t6_loop k1_t6_ok a (k1_t6_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 t1 v x0 x1 x2 x3 x4 x5 x6 x7) >>= k) Q) := by
  have e : k1_t6_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 t1 v x0 x1 x2 x3 x4 x5 x6 x7 = blk L q4 (Memref.isWhole_whole _) := by
    funext t a; exact t6_eq L q0 q1 q2 q3 q4 _ _ _ _ _ t1 v x0 x1 x2 x3 x4 x5 x6 x7 t a
  rw [e]
  exact wp_blk d L q4 (Memref.isWhole_whole _) a g

theorem wp_block7  (x0 x1 x2 x3 x4 x5 x6 : FVec F S16 .f32) (x7 : F .f32) (a : Acc F) (g : Buf (Elt F) (q0.view.loc 𝓉))
    {α : Type} {k : Acc F → Prog (TpuEff nD τ sig (Elt F) Λ₀ 𝓉.2) α} {Q : α → sProp 𝕄} :
    (iprop(q0.view.loc 𝓉 ↦[q0.view.set]{fullShare} g) : sProp 𝕄)
    ⊢ iprop(((q0.view.loc 𝓉 ↦[q0.view.set]{fullShare} g) -∗ ∀ r : Acc F, ⌜r = accRows (q0.view.read (Elt F) g) 0 128 a⌝ -∗ wp frame (wpE defs₀ 𝒱₀ 𝓉 none) Set.univ (k r) Q)
      -∗ wp frame (wpE defs₀ 𝒱₀ 𝓉 none) Set.univ (Scf.Loop.for k1_t7_loop k1_t7_ok a (k1_t7_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1  x0 x1 x2 x3 x4 x5 x6 x7) >>= k) Q) := by
  have e : k1_t7_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1  x0 x1 x2 x3 x4 x5 x6 x7 = blk L q0 (Memref.isWhole_whole _) := by
    funext t a; exact t7_eq L q0 q1 q2 q3 q4 _ _ _ _ _  x0 x1 x2 x3 x4 x5 x6 x7 t a
  rw [e]
  exact wp_blk d L q0 (Memref.isWhole_whole _) a g

theorem cond1_iff : ∀ t : Fin k1_t1_loop.trips, k1_cond1 t = 1#1 ↔ 5 * t.val + 0 + 5 < 196 := by decide +kernel

theorem off11_at (t : Fin k1_t1_loop.trips) : k1_off11 t 0 = 128 * (5 * t.val + 0 + 5) := by
  rw [k1_off11_eq]; show 640 * t.val + 640 = _; omega

theorem cond2_iff : ∀ t : Fin k1_t1_loop.trips, k1_cond2 t = 1#1 ↔ 5 * t.val + 1 + 5 < 196 := by decide +kernel

theorem off20_at (t : Fin k1_t1_loop.trips) : k1_off20 t 0 = 128 * (5 * t.val + 1 + 5) := by
  rw [k1_off20_eq]; show 640 * t.val + 768 = _; omega

theorem cond3_iff : ∀ t : Fin k1_t1_loop.trips, k1_cond3 t = 1#1 ↔ 5 * t.val + 2 + 5 < 196 := by decide +kernel

theorem off29_at (t : Fin k1_t1_loop.trips) : k1_off29 t 0 = 128 * (5 * t.val + 2 + 5) := by
  rw [k1_off29_eq]; show 640 * t.val + 896 = _; omega

theorem cond4_iff : ∀ t : Fin k1_t1_loop.trips, k1_cond4 t = 1#1 ↔ 5 * t.val + 3 + 5 < 196 := by decide +kernel

theorem off38_at (t : Fin k1_t1_loop.trips) : k1_off38 t 0 = 128 * (5 * t.val + 3 + 5) := by
  rw [k1_off38_eq]; show 640 * t.val + 1024 = _; omega

theorem cond5_iff : ∀ t : Fin k1_t1_loop.trips, k1_cond5 t = 1#1 ↔ 5 * t.val + 4 + 5 < 196 := by decide +kernel

theorem off47_at (t : Fin k1_t1_loop.trips) : k1_off47 t 0 = 128 * (5 * t.val + 4 + 5) := by
  rw [k1_off47_eq]; show 640 * t.val + 1152 = _; omega

theorem t_lt (t : Fin k1_t1_loop.trips) : t.val < 39 := lt_of_lt_of_eq t.isLt (by decide)

set_option maxRecDepth 65536 in
theorem wp_part36 (hx : ∀ j : S819200.Idx, (fx j : BitVec 32).toNat < 1000000)
    (hg : ∀ x : S25088.Idx, lV1.view.read (Elt F) g x = wordFrom fx (base1 L) (x 0).val)
    (O : CellTallies nD τ sig (HIx 2)) (W : Waits sig (HIx 2)) (qe0 qe1 ql0 ql1 : PosShare TreeShare) (v w : BitVec 32) (t : Fin k1_t1_loop.trips)
    (a0 a1 a2 a3 a4 a5 a6 a7 : FVec F S16 .f32) (A : Acc F) (hA : (a0, a1, a2, a3, a4, a5, a6, a7) = accAfter fx fe (base1 L) A (5 * t.val + 0)) :
    iprop(Transfers.MayWaits 𝓉 (default : HIx 2) O ∗ Slot d L fx fe g q0 cc1_scratch7.sem qe0 ql0 (5 * t.val + 0) ∗ Slot d L fx fe g q1 cc1_scratch8.sem qe1 ql1 (5 * t.val + 1) ∗ Ow d L O W)
      ⊢ wp frame (wpE defs₀ 𝒱₀ 𝓉 none) Set.univ
          (k1_part36 L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 v w t a0 a1 a2 a3 a4 a5 a6 a7)
          fun r => iprop(Slot d L fx fe g q0 cc1_scratch7.sem qe0 ql0 (5 * t.val + 0 + 5) ∗ Slot d L fx fe g q1 cc1_scratch8.sem qe1 ql1 (5 * t.val + 1 + 5) ∗ Ow d L O W
            ∗ ⌜(r.2.1, r.2.2.1, r.2.2.2.1, r.2.2.2.2.1, r.2.2.2.2.2.1, r.2.2.2.2.2.2.1, r.2.2.2.2.2.2.2.1, r.2.2.2.2.2.2.2.2) = accAfter fx fe (base1 L) A (5 * t.val + 2)⌝) := by
  simp only [k1_part36_eq_skeleton]; unfold k1_part36_skel
  simp only [bind_assoc, pure_bind]
  iintro ⟨#Hmw, HS0, HS1, HO⟩
  iapply (wp_landed' d L fx fe g O W (c := 5 * t.val + 0) (by have := t_lt t; omega)) $$ [HS0 HO]
  · isplitl [HS0]; · iexact HS0
    isplitl [HO]; · iexact HO
    iexact Hmw
  unfold Rows
  iintro ⟨⟨%g0, %hg0, Hr0⟩, He0, Hl0, Hs0, HO⟩
  iapply (wp_block2 d L) $$ [Hr0]
  · iexact Hr0
  iintro Hr0 %r0 %hr0
  rw [hg0] at hr0
  iapply (wp_refire d L fx fe g hx hg (c := 5 * t.val + 0) (cond1_iff t) (fun _ => off11_at t)) $$ [Hr0 He0 Hl0 Hs0]
  · unfold Idle
    isplitl [Hr0]; · iexists g0; iexact Hr0
    isplitl [He0]; · iexact He0
    isplitl [Hl0]; · iexact Hl0
    iexact Hs0
  iintro HS0
  iapply (wp_landed' d L fx fe g O W (c := 5 * t.val + 1) (by have := t_lt t; omega)) $$ [HS1 HO]
  · isplitl [HS1]; · iexact HS1
    isplitl [HO]; · iexact HO
    iexact Hmw
  unfold Rows
  iintro ⟨⟨%g1, %hg1, Hr1⟩, He1, Hl1, Hs1, HO⟩
  iapply (wp_block3 d L) $$ [Hr1]
  · iexact Hr1
  iintro Hr1 %r1 %hr1
  rw [hg1] at hr1
  iapply (wp_refire d L fx fe g hx hg (c := 5 * t.val + 1) (cond2_iff t) (fun _ => off20_at t)) $$ [Hr1 He1 Hl1 Hs1]
  · unfold Idle
    isplitl [Hr1]; · iexists g1; iexact Hr1
    isplitl [He1]; · iexact He1
    isplitl [Hl1]; · iexact Hl1
    iexact Hs1
  iintro HS1
  sl_step
  isplitl [HS0]; · iexact HS0
  isplitl [HS1]; · iexact HS1
  isplitl [HO]; · iexact HO
  ipureintro
  exact hr1.trans (congrArg (accRows (rowsAt fx fe (base1 L) (5 * t.val + 1)) 0 128) (hr0.trans (congrArg (accRows (rowsAt fx fe (base1 L) (5 * t.val)) 0 128) hA)))

set_option maxRecDepth 65536 in
set_option maxHeartbeats 4000000 in
theorem wp_part37 (hx : ∀ j : S819200.Idx, (fx j : BitVec 32).toNat < 1000000)
    (hg : ∀ x : S25088.Idx, lV1.view.read (Elt F) g x = wordFrom fx (base1 L) (x 0).val)
    (O : CellTallies nD τ sig (HIx 2)) (W : Waits sig (HIx 2)) (qe2 qe3 qe4 ql2 ql3 ql4 : PosShare TreeShare) (v : BitVec 32) (t : Fin k1_t1_loop.trips)
    (a0 a1 a2 a3 a4 a5 a6 a7 : FVec F S16 .f32) (A : Acc F) (hA : (a0, a1, a2, a3, a4, a5, a6, a7) = accAfter fx fe (base1 L) A (5 * t.val + 2)) :
    iprop(Transfers.MayWaits 𝓉 (default : HIx 2) O ∗ Slot d L fx fe g q2 cc1_scratch9.sem qe2 ql2 (5 * t.val + 2) ∗ Slot d L fx fe g q3 cc1_scratch10.sem qe3 ql3 (5 * t.val + 3) ∗ Slot d L fx fe g q4 cc1_scratch11.sem qe4 ql4 (5 * t.val + 4) ∗ Ow d L O W)
      ⊢ wp frame (wpE defs₀ 𝒱₀ 𝓉 none) Set.univ
          (k1_part37 L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 t v a0 a1 a2 a3 a4 a5 a6 a7)
          fun r => iprop(Slot d L fx fe g q2 cc1_scratch9.sem qe2 ql2 (5 * t.val + 2 + 5) ∗ Slot d L fx fe g q3 cc1_scratch10.sem qe3 ql3 (5 * t.val + 3 + 5) ∗ Idle d L fe g q4 cc1_scratch11.sem qe4 ql4 ∗ Ow d L O W
            ∗ ⌜(r.1, r.2.1, r.2.2.1, r.2.2.2.1, r.2.2.2.2.1, r.2.2.2.2.2.1, r.2.2.2.2.2.2.1, r.2.2.2.2.2.2.2.1) = accAfter fx fe (base1 L) A (5 * t.val + 5)⌝) := by
  simp only [k1_part37_eq_skeleton]; unfold k1_part37_skel
  simp only [bind_assoc, pure_bind]
  iintro ⟨#Hmw, HS2, HS3, HS4, HO⟩
  iapply (wp_landed' d L fx fe g O W (c := 5 * t.val + 2) (by have := t_lt t; omega)) $$ [HS2 HO]
  · isplitl [HS2]; · iexact HS2
    isplitl [HO]; · iexact HO
    iexact Hmw
  unfold Rows
  iintro ⟨⟨%g2, %hg2, Hr2⟩, He2, Hl2, Hs2, HO⟩
  iapply (wp_block4 d L) $$ [Hr2]
  · iexact Hr2
  iintro Hr2 %r2 %hr2
  rw [hg2] at hr2
  iapply (wp_refire d L fx fe g hx hg (c := 5 * t.val + 2) (cond3_iff t) (fun _ => off29_at t)) $$ [Hr2 He2 Hl2 Hs2]
  · unfold Idle
    isplitl [Hr2]; · iexists g2; iexact Hr2
    isplitl [He2]; · iexact He2
    isplitl [Hl2]; · iexact Hl2
    iexact Hs2
  iintro HS2
  iapply (wp_landed' d L fx fe g O W (c := 5 * t.val + 3) (by have := t_lt t; omega)) $$ [HS3 HO]
  · isplitl [HS3]; · iexact HS3
    isplitl [HO]; · iexact HO
    iexact Hmw
  unfold Rows
  iintro ⟨⟨%g3, %hg3, Hr3⟩, He3, Hl3, Hs3, HO⟩
  iapply (wp_block5 d L) $$ [Hr3]
  · iexact Hr3
  iintro Hr3 %r3 %hr3
  rw [hg3] at hr3
  iapply (wp_refire d L fx fe g hx hg (c := 5 * t.val + 3) (cond4_iff t) (fun _ => off38_at t)) $$ [Hr3 He3 Hl3 Hs3]
  · unfold Idle
    isplitl [Hr3]; · iexists g3; iexact Hr3
    isplitl [He3]; · iexact He3
    isplitl [Hl3]; · iexact Hl3
    iexact Hs3
  iintro HS3
  iapply (wp_landed' d L fx fe g O W (c := 5 * t.val + 4) (by have := t_lt t; omega)) $$ [HS4 HO]
  · isplitl [HS4]; · iexact HS4
    isplitl [HO]; · iexact HO
    iexact Hmw
  unfold Rows
  iintro ⟨⟨%g4, %hg4, Hr4⟩, He4, Hl4, Hs4, HO⟩
  iapply (wp_block6 d L) $$ [Hr4]
  · iexact Hr4
  iintro Hr4 %r4 %hr4
  rw [hg4] at hr4
  sl_step
  unfold Idle
  isplitl [HS2]; · iexact HS2
  isplitl [HS3]; · iexact HS3
  isplitl [Hr4 He4 Hl4 Hs4]
  · isplitl [Hr4]; · iexists g4; iexact Hr4
    isplitl [He4]; · iexact He4
    isplitl [Hl4]; · iexact Hl4
    iexact Hs4
  isplitl [HO]; · iexact HO
  ipureintro
  exact hr4.trans (congrArg (accRows (rowsAt fx fe (base1 L) (5 * t.val + 4)) 0 128)
    (hr3.trans (congrArg (accRows (rowsAt fx fe (base1 L) (5 * t.val + 3)) 0 128)
      (hr2.trans (congrArg (accRows (rowsAt fx fe (base1 L) (5 * t.val + 2)) 0 128) hA)))))

set_option maxRecDepth 65536 in
/-- One trip of the ring: five chunks into the accumulators, and the five buffers sent for the chunks five further on. -/
theorem wp_trip (hx : ∀ j : S819200.Idx, (fx j : BitVec 32).toNat < 1000000)
    (hg : ∀ x : S25088.Idx, lV1.view.read (Elt F) g x = wordFrom fx (base1 L) (x 0).val)
    (O : CellTallies nD τ sig (HIx 2)) (W : Waits sig (HIx 2)) (qe0 qe1 qe2 qe3 qe4 ql0 ql1 ql2 ql3 ql4 : PosShare TreeShare) (x0 x1 x2 x3 x4 x5 x6 : FVec F S16 .f32) (x7 : F .f32) (t : Fin k1_t1_loop.trips)
    (a A : Acc F) (hA : a = accAfter fx fe (base1 L) A (5 * t.val + 0)) :
    iprop(Transfers.MayWaits 𝓉 (default : HIx 2) O ∗ Slot d L fx fe g q0 cc1_scratch7.sem qe0 ql0 (5 * t.val + 0) ∗ Slot d L fx fe g q1 cc1_scratch8.sem qe1 ql1 (5 * t.val + 1) ∗ Slot d L fx fe g q2 cc1_scratch9.sem qe2 ql2 (5 * t.val + 2) ∗ Slot d L fx fe g q3 cc1_scratch10.sem qe3 ql3 (5 * t.val + 3) ∗ Slot d L fx fe g q4 cc1_scratch11.sem qe4 ql4 (5 * t.val + 4) ∗ Ow d L O W)
      ⊢ wp frame (wpE defs₀ 𝒱₀ 𝓉 none) Set.univ
          (k1_t1_body L xV (Memref.isWhole_whole _) eV (Memref.isWhole_whole _) pV (Memref.isWhole_whole _) sV (Memref.isWhole_whole _)
      lV1 (Memref.isWhole_whole _) q0 (Memref.isWhole_whole _) q1 (Memref.isWhole_whole _) q2 (Memref.isWhole_whole _) q3 (Memref.isWhole_whole _) q4 (Memref.isWhole_whole _) aV (Memref.isWhole_whole _)
      cc1_scratch7 cc1_scratch8 cc1_scratch9 cc1_scratch10 cc1_scratch11 cc1_scoped0 cc1_scoped1 x0 x1 x2 x3 x4 x5 x6 x7 t a)
          fun r => iprop(Slot d L fx fe g q0 cc1_scratch7.sem qe0 ql0 (5 * t.val + 0 + 5) ∗ Slot d L fx fe g q1 cc1_scratch8.sem qe1 ql1 (5 * t.val + 1 + 5) ∗ Slot d L fx fe g q2 cc1_scratch9.sem qe2 ql2 (5 * t.val + 2 + 5) ∗ Slot d L fx fe g q3 cc1_scratch10.sem qe3 ql3 (5 * t.val + 3 + 5) ∗ Slot d L fx fe g q4 cc1_scratch11.sem qe4 ql4 (5 * t.val + 4 + 5) ∗ Ow d L O W
            ∗ ⌜r = accAfter fx fe (base1 L) A (5 * t.val + 5)⌝) := by
  obtain ⟨a0, a1, a2, a3, a4, a5, a6, a7⟩ := a
  simp only [k1_t1_body]
  iintro ⟨#Hmw, HS0, HS1, HS2, HS3, HS4, HO⟩
  iapply (wp_then (wp_part36 d L fx fe g hx hg O W qe0 qe1 ql0 ql1 _ _ t a0 a1 a2 a3 a4 a5 a6 a7 A hA)) $$ [HS0 HS1 HO]
  · isplitl []; · iexact Hmw
    isplitl [HS0]; · iexact HS0
    isplitl [HS1]; · iexact HS1
    iexact HO
  iintro %r ⟨HS0, HS1, HO, %hr⟩
  iapply (wp_then (wp_part37 d L fx fe g hx hg O W qe2 qe3 qe4 ql2 ql3 ql4 _ t _ _ _ _ _ _ _ _ A hr)) $$ [HS2 HS3 HS4 HO]
  · isplitl []; · iexact Hmw
    isplitl [HS2]; · iexact HS2
    isplitl [HS3]; · iexact HS3
    isplitl [HS4]; · iexact HS4
    iexact HO
  iintro %s ⟨HS2, HS3, HI4, HO, %hs⟩
  iapply (wp_refire d L fx fe g hx hg (c := 5 * t.val + 4) (cond5_iff t) (fun _ => off47_at t)) $$ [HI4]
  · iexact HI4
  iintro HS4
  sl_step
  isplitl [HS0]; · iexact HS0
  isplitl [HS1]; · iexact HS1
  isplitl [HS2]; · iexact HS2
  isplitl [HS3]; · iexact HS3
  isplitl [HS4]; · iexact HS4
  isplitl [HO]; · iexact HO
  ipureintro; exact hs

end

end Cert.Proof.Bag

end
-- ==== Proof.TailBody.lean ====
/-
  One tile of the second SparseCore call.
-/
module

public import proofs.«01_k».proof.Proof.Tail

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 2) (Elt F) ℕ UU ℕ

section

variable (d : Dev nD) (L : grid1.Coords)

local notation "𝓉" => (V d (c1 L) (i1 L) : Thread nD τ)

/-- The tile's words of the index list, and its row of the partial sums. -/
abbrev xAt1 : Memref sig .scVector .hbm S25088 .i32 := xV.slice (Rect.unit (s := S819200) (k1_off1 L) S25088.size (k1_off1_inb L)) (fun _ => rfl)
abbrev sAt : Memref sig .scVector .hbm S128 .f32 :=
  (sV.slice (Rect.unit (s := S32x128) (k1_off56 L) S1x128.size (k1_off56_inb L)) (fun _ => rfl)).squeeze S128 squeezes_S1x128_S128

/-- The tile's row of the partial sums, at `f`. -/
def rowPts (f : Buf (Elt F) (sLoc d)) : sProp 𝕄 := iprop((sAt L).view.loc 𝓉 ↦[(sAt L).view.set]{fullShare} f)

variable (F) in
/-- Eight accumulators of zeros. -/
def zeroAcc : Acc F := accT fun _ => broadcast S16 (Scalar.ofBits .f32 0x00000000#32 : F .f32)

/-- One accumulator out of eight. -/
def pick (a : Acc F) (j : ℕ) : FVec F S16 .f32 :=
  if j = 0 then a.1 else if j = 1 then a.2.1 else if j = 2 then a.2.2.1 else if j = 3 then a.2.2.2.1 else if j = 4 then a.2.2.2.2.1
    else if j = 5 then a.2.2.2.2.2.1 else if j = 6 then a.2.2.2.2.2.2.1 else a.2.2.2.2.2.2.2

/-- Eight accumulators as one row of 128. -/
def rowOf (a : Acc F) : S128.Idx → Elt F .f32 := fun x => pick a ((x 0).val / 16) (at1 ⟨(x 0).val % 16, Nat.mod_lt _ (by decide)⟩)

/-- The partial sums: row `w` is worker `w`'s. -/
def partsVal (fx : S819200.Idx → BitVec 32) (e : S1000000x128.Idx → Elt F .f32) : S32x128.Idx → Elt F .f32 :=
  fun y => rowOf (accAfter fx e (25088 * (y 0).val + 16384) (zeroAcc F) 196) (at1 (y 1))

theorem xAt1_read (fx : Buf (Elt F) (xLoc d)) (x : S25088.Idx) :
    (xAt1 L).view.read (Elt F) fx x = wordFrom fx (base1 L) (x 0).val := by
  have hb := k1_off1_inb L 0
  have hx := (x 0).isLt
  have he : k1_off1 L 0 = 50176 * (L 1).val + 25088 * (L 0).val + 16384 := by rw [k1_off1_eq]; rfl
  have hlt : 50176 * (L 1).val + 25088 * (L 0).val + 16384 + (x 0).val < 819200 := by
    have h1 : S25088.size 0 = 25088 := rfl
    have h2 : S819200.size 0 = 819200 := rfl
    have h3 : (x 0).val < 25088 := hx
    rw [he, h1, h2] at hb; omega
  rw [wordFrom_eq fx hlt]
  refine congrArg fx ?_
  funext a; match a with
  | 0 => exact Fin.ext (by show k1_off1 L 0 + 1 * (x 0).val = base1 L + (x 0).val; rw [he, Nat.one_mul])

/-! ## The tile's own buffers and semaphores -/

def sems1 : List (DmaSem sig) := [cc1_scratch7.sem, cc1_scratch8.sem, cc1_scratch9.sem, cc1_scratch10.sem, cc1_scratch11.sem,
  cc1_scoped0.sem, cc1_scoped1.sem]

theorem ownSems1_V : ∃ X : sProp 𝕄, (ownSems0 𝓉 : sProp 𝕄)
    = iprop(semVal (𝓉, .dma cc1_scratch7.sem) 0 ∗ semVal (𝓉, .dma cc1_scratch8.sem) 0 ∗ semVal (𝓉, .dma cc1_scratch9.sem) 0
        ∗ semVal (𝓉, .dma cc1_scratch10.sem) 0 ∗ semVal (𝓉, .dma cc1_scratch11.sem) 0 ∗ semVal (𝓉, .dma cc1_scoped0.sem) 0
        ∗ semVal (𝓉, .dma cc1_scoped1.sem) 0 ∗ X) := by
  unfold SparseCore.Cfg.ownSems0
  refine ⟨_, (bigSep_take (fun g => semVal g 0) (sems1.map fun s => ((𝓉, SemLoc.dma s) : GSem nD τ sig)) _ ?_ ?_).trans rfl⟩
  · refine List.Nodup.map (fun a b h => ?_) (by decide)
    exact SemLoc.dma.inj (Prod.mk.inj h).2
  · intro g hg
    obtain ⟨s, hs, rfl⟩ := List.mem_map.mp hg
    refine mem_ownCells.mpr ⟨rfl, ?_⟩
    show (SemLoc.dma s : SemLoc sig).isScoped .scVector = true
    clear hg; revert hs s; decide

def bufs1 : List (Ref sig .scVector) := [cc1_scratch0, cc1_scratch1, cc1_scratch2, cc1_scratch3, cc1_scratch4, cc1_scratch5, cc1_scratch6]

theorem bufs1_nodup : bufs1.Nodup := by decide

theorem ownBufs1_V : ∃ X : sProp 𝕄, (ownBufs 𝓉 : sProp 𝕄)
    = iprop((∃ f, (𝓉).loc cc1_scratch0 ↦{fullShare} f) ∗ (∃ f, (𝓉).loc cc1_scratch1 ↦{fullShare} f) ∗ (∃ f, (𝓉).loc cc1_scratch2 ↦{fullShare} f)
        ∗ (∃ f, (𝓉).loc cc1_scratch3 ↦{fullShare} f) ∗ (∃ f, (𝓉).loc cc1_scratch4 ↦{fullShare} f)
        ∗ (∃ f, (𝓉).loc cc1_scratch5 ↦{fullShare} f) ∗ (∃ f, (𝓉).loc cc1_scratch6 ↦{fullShare} f) ∗ X) := by
  unfold SparseCore.Cfg.ownBufs
  refine ⟨_, (bigSep_take _ (bufs1.map fun b => (Proc.scVector (c1 L) (i1 L)).devRef b) _ ?_ ?_).trans rfl⟩
  · exact List.Nodup.map (Proc.devRef_injective _) bufs1_nodup
  · intro g hg
    obtain ⟨s, hs, rfl⟩ := List.mem_map.mp hg
    refine SparseCore.Cfg.mem_ownRefs_of_owner ?_
    simp only [bufs1, List.mem_cons, List.mem_nil_iff] at hs
    rcases hs with rfl | rfl | rfl | rfl | rfl | rfl | rfl | h
    iterate 7 rfl
    exact h.elim

omit [FloatOps F] [Named F] in
theorem pts_whole1 (r : Ref sig .scVector) (f : Buf (Elt F) ((𝓉).loc r)) :
    ((𝓉).loc r ↦{fullShare} f : sProp 𝕄) = (Memref.whole r).view.loc 𝓉 ↦[(Memref.whole r).view.set]{fullShare} f := by
  rw [show (Memref.whole r).view.set = Finset.univ from View.set_whole _]

/-- The index list after its copy: the tile's words, whatever contents spell them. -/
theorem list_filled1 (fl : Buf (Elt F) (lV1.view.loc 𝓉)) (fx : Buf (Elt F) (xLoc d)) (w : S25088.Idx → Elt F .i32)
    (hw : w = (xAt1 L).view.read (Elt F) fx) :
    (lV1.view.loc 𝓉 ↦{fullShare} View.write (Elt F) lV1.view fl w Finset.univ : sProp 𝕄)
      ⊢ iprop(∃ g, ⌜∀ x : S25088.Idx, lV1.view.read (Elt F) g x = wordFrom fx (base1 L) (x 0).val⌝ ∗ lV1.view.loc 𝓉 ↦{fullShare} g) := by
  iintro H
  iexists _; isplitr
  swap; · iexact H
  ipureintro; intro x
  rw [View.read_write_univ, hw, xAt1_read]

/-- Between two trips of the ring. -/
def ringInv (fx : S819200.Idx → BitVec 32) (fe : S1000000x128.Idx → Elt F .f32) (g : S25088.Idx → Elt F .i32)
    (qe ql : Fin 5 → PosShare TreeShare) (O : CellTallies nD τ sig (HIx 2)) (W : Waits sig (HIx 2)) (k : ℕ) (acc : Acc F) : sProp 𝕄 :=
  iprop(Transfers.MayWaits 𝓉 (default : HIx 2) O ∗ Slot d L fx fe g q0 cc1_scratch7.sem (qe 0) (ql 0) (5 * k + 0) ∗ Slot d L fx fe g q1 cc1_scratch8.sem (qe 1) (ql 1) (5 * k + 1)
    ∗ Slot d L fx fe g q2 cc1_scratch9.sem (qe 2) (ql 2) (5 * k + 2) ∗ Slot d L fx fe g q3 cc1_scratch10.sem (qe 3) (ql 3) (5 * k + 3)
    ∗ Slot d L fx fe g q4 cc1_scratch11.sem (qe 4) (ql 4) (5 * k + 4) ∗ Ow d L O W
    ∗ ⌜acc = accAfter fx fe (base1 L) (zeroAcc F) (5 * k)⌝)

set_option maxRecDepth 65536 in
/-- The ring: 39 trips, 195 chunks. -/
theorem wp_ring (fx : S819200.Idx → BitVec 32) (fe : S1000000x128.Idx → Elt F .f32) (g : S25088.Idx → Elt F .i32)
    (hx : ∀ j : S819200.Idx, (fx j : BitVec 32).toNat < 1000000)
    (hg : ∀ x : S25088.Idx, lV1.view.read (Elt F) g x = wordFrom fx (base1 L) (x 0).val)
    (qe ql : Fin 5 → PosShare TreeShare) (O : CellTallies nD τ sig (HIx 2)) (W : Waits sig (HIx 2))
    (x0 x1 x2 x3 x4 x5 x6 : FVec F S16 .f32) (x7 : F .f32) (a : Acc F) :
    ringInv d L fx fe g qe ql O W 0 a
      ⊢ wp frame (wpE defs₀ 𝒱₀ 𝓉 none) Set.univ
          (Scf.Loop.for k1_t1_loop k1_t1_ok a
            (k1_t1_body L xV (Memref.isWhole_whole _) eV (Memref.isWhole_whole _) pV (Memref.isWhole_whole _) sV (Memref.isWhole_whole _) lV1 (Memref.isWhole_whole _) q0 (Memref.isWhole_whole _) q1 (Memref.isWhole_whole _) q2 (Memref.isWhole_whole _) q3 (Memref.isWhole_whole _) q4 (Memref.isWhole_whole _) aV (Memref.isWhole_whole _)
              cc1_scratch7 cc1_scratch8 cc1_scratch9 cc1_scratch10 cc1_scratch11 cc1_scoped0 cc1_scoped1 x0 x1 x2 x3 x4 x5 x6 x7))
          fun r => ringInv d L fx fe g qe ql O W 39 r := by
  iintro H
  sl_for (ringInv d L fx fe g qe ql O W) $$ [H]
  case region =>
    intro t acc
    unfold ringInv
    iintro ⟨#Hmw, HS0, HS1, HS2, HS3, HS4, HO, %hacc⟩
    iapply (wp_after (wp_trip d L fx fe g hx hg O W (qe 0) (qe 1) (qe 2) (qe 3) (qe 4) (ql 0) (ql 1) (ql 2) (ql 3) (ql 4)
      x0 x1 x2 x3 x4 x5 x6 x7 t acc (zeroAcc F) hacc)) $$ [HS0 HS1 HS2 HS3 HS4 HO]
    · isplitl []; · iexact Hmw
      isplitl [HS0]; · iexact HS0
      isplitl [HS1]; · iexact HS1
      isplitl [HS2]; · iexact HS2
      isplitl [HS3]; · iexact HS3
      isplitl [HS4]; · iexact HS4
      iexact HO
    iintro %r ⟨HS0, HS1, HS2, HS3, HS4, HO, %hr⟩
    isplitl []; · iexact Hmw
    isplitl [HS0]; · iexact HS0
    isplitl [HS1]; · iexact HS1
    isplitl [HS2]; · iexact HS2
    isplitl [HS3]; · iexact HS3
    isplitl [HS4]; · iexact HS4
    isplitl [HO]; · iexact HO
    ipureintro; exact hr
  · isplitl [H]; · iexact H
    iintro %r HI
    iexact HI

omit [FloatOps F] [Named F] in
theorem slot_pend (fx : S819200.Idx → BitVec 32) (fe : S1000000x128.Idx → Elt F .f32) (g : S25088.Idx → Elt F .i32)
    (rV : Memref sig .scVector .vmem S128x128 .f32) (sem : DmaSem sig) (q qo : PosShare TreeShare) {c : ℕ} (hc : c < 196) :
    Slot d L fx fe g rV sem q qo c = Pend d (c1 L) (i1 L) lV1 rV sem q qo fe g (rowsAt fx fe (base1 L) c) := if_pos hc

omit [FloatOps F] [Named F] in
theorem slot_idle (fx : S819200.Idx → BitVec 32) (fe : S1000000x128.Idx → Elt F .f32) (g : S25088.Idx → Elt F .i32)
    (rV : Memref sig .scVector .vmem S128x128 .f32) (sem : DmaSem sig) (q qo : PosShare TreeShare) {c : ℕ} (hc : ¬ c < 196) :
    Slot d L fx fe g rV sem q qo c = Idle d L fe g rV sem q qo := if_neg hc

/-- A place filled with what `g` reads there holds `g`. -/
theorem place_filled1 {s : Shape} (pm : Memref sig .scVector .hbm s .f32) (fp g : Buf (Elt F) (pm.view.loc 𝓉)) (w : s.Idx → Elt F .f32)
    (h : pm.view.read (Elt F) g = w) :
    (pm.view.loc 𝓉 ↦[pm.view.set]{fullShare} pm.view.writes (Elt F) fp [⟨Rect.whole s, w⟩] : sProp 𝕄)
      ⊢ pm.view.loc 𝓉 ↦[pm.view.set]{fullShare} g := by
  refine Entails.of_eq (pointsTo_congr fun i hi => ?_)
  rw [← View.write_univ_eq_writes_whole, View.writes_nil]
  exact pts_filled pm.view fp g w h i hi

/-- Row `L` of the partial sums, as `partsVal` has it. -/
theorem sAt_read (fx : S819200.Idx → BitVec 32) (fe : S1000000x128.Idx → Elt F .f32) :
    (sAt L).view.read (Elt F) (partsVal fx fe) = rowOf (accAfter fx fe (base1 L) (zeroAcc F) 196) := by
  have e0 : k1_off56 L 0 = 2 * (L 1).val + (L 0).val := by rw [k1_off56_eq]; rfl
  have e1 : k1_off56 L 1 = 0 := by rw [k1_off56_eq]; rfl
  have hw : k1_off56 L 0 < 32 := by
    have h := k1_off56_inb L 0
    have h1 : S1x128.size 0 = 1 := rfl
    have h2 : S32x128.size 0 = 32 := rfl
    rw [h1, h2] at h; omega
  funext x
  have key : (sAt L).view.read (Elt F) (partsVal fx fe) x = partsVal fx fe (at2 (⟨k1_off56 L 0, hw⟩ : Fin 32) (x 0)) := by
    have hs : Shape.reshapeEquiv (s := S1x128) (s' := S128) squeezes_S1x128_S128.numel_eq x = at2 (0 : Fin 1) (x 0) := by
      refine Shape.reshapeEquiv_eq_of_rowMajor _ ?_
      refine (Shape.rowMajor_val_two (d := ![1, 128]) (at2 (0 : Fin 1) (x 0))).trans (Eq.trans ?_ (Shape.rowMajor_val_one (d := ![128]) x).symm)
      show 0 * 128 + (x 0).val = (x 0).val
      omega
    show partsVal fx fe ((Rect.unit (s := S32x128) (k1_off56 L) S1x128.size (k1_off56_inb L)).emb
      (Shape.reshapeEquiv (s := S1x128) (s' := S128) squeezes_S1x128_S128.numel_eq x)) = _
    rw [hs]
    refine congrArg (partsVal fx fe) (funext fun a => ?_)
    match a with
    | 0 => exact Fin.ext (by show k1_off56 L 0 + 1 * 0 = k1_off56 L 0; omega)
    | 1 => exact Fin.ext (by show k1_off56 L 1 + 1 * (x 0).val = (x 0).val; rw [e1]; omega)
  rw [key]
  have hb : 25088 * k1_off56 L 0 + 16384 = base1 L := by rw [e0]; unfold base1; omega
  show rowOf (accAfter fx fe (25088 * k1_off56 L 0 + 16384) (zeroAcc F) 196) (at1 (x 0)) = _
  rw [hb]
  exact congrArg _ (funext fun a => by match a with | 0 => rfl)

/-- A store's payload, read back as part of the row. -/
theorem piece_row (r : Acc F) (j : ℕ) (v : FVec F S16 .f32) (hv : pick r j = v) (off : Fin 1 → ℕ) (inb : ∀ a, off a + S16.size a ≤ S128.size a)
    (ho : off 0 = 16 * j) (x : S16.Idx) :
    shapeCast S16 v shapeCasts_S16_S16 x = rowOf r ((Rect.unit (s := S128) off S16.size inb).emb x) := by
  have hx : (x 0).val < 16 := (x 0).isLt
  have e : ((Rect.unit (s := S128) off S16.size inb).emb x 0).val = 16 * j + (x 0).val := by
    show off 0 + 1 * (x 0).val = _
    rw [ho, Nat.one_mul]
  have ed : ((Rect.unit (s := S128) off S16.size inb).emb x 0).val / 16 = j := by rw [e]; omega
  have em : at1 ⟨((Rect.unit (s := S128) off S16.size inb).emb x 0).val % 16, Nat.mod_lt _ (by decide)⟩ = x := by
    funext a
    match a with
    | 0 => exact Fin.ext (by show ((Rect.unit (s := S128) off S16.size inb).emb x 0).val % 16 = (x 0).val; rw [e]; omega)
  rw [shapeCast_apply _ _ x x rfl, ← hv]
  exact (congrArg₂ (fun k y => pick r k y) ed em).symm

/-- Eight stores fill the row buffer with the accumulators. -/
theorem acc_stored (fa : Buf (Elt F) (aV.view.loc 𝓉)) (r : Acc F) :
    aV.view.read (Elt F) (aV.view.writes (Elt F) fa
      [⟨Rect.unit (s := S128) ![112] S16.size inb_S128_S16_112, k1_pay388 r.2.2.2.2.2.2.2⟩,
       ⟨Rect.unit (s := S128) ![96] S16.size inb_S128_S16_96, k1_pay387 r.2.2.2.2.2.2.1⟩,
       ⟨Rect.unit (s := S128) ![80] S16.size inb_S128_S16_80, k1_pay386 r.2.2.2.2.2.1⟩,
       ⟨Rect.unit (s := S128) ![64] S16.size inb_S128_S16_64, k1_pay385 r.2.2.2.2.1⟩,
       ⟨Rect.unit (s := S128) ![48] S16.size inb_S128_S16_48, k1_pay384 r.2.2.2.1⟩,
       ⟨Rect.unit (s := S128) ![32] S16.size inb_S128_S16_32, k1_pay383 r.2.2.1⟩,
       ⟨Rect.unit (s := S128) ![16] S16.size inb_S128_S16_16, k1_pay382 r.2.1⟩,
       ⟨Rect.unit (s := S128) ![0] S16.size inb_S128_S16_0, k1_pay381 r.1⟩]) = rowOf r := by
  funext y
  refine View.read_writes_apply_of_pieces aV.view fa (rowOf r) _ ?_ y (View.cover_of_tiled _ ![16] rfl y)
  intro p hp
  simp only [List.mem_cons, List.not_mem_nil, or_false] at hp
  rcases hp with rfl | rfl | rfl | rfl | rfl | rfl | rfl | rfl
  · exact piece_row r 7 _ rfl ![112] inb_S128_S16_112 rfl
  · exact piece_row r 6 _ rfl ![96] inb_S128_S16_96 rfl
  · exact piece_row r 5 _ rfl ![80] inb_S128_S16_80 rfl
  · exact piece_row r 4 _ rfl ![64] inb_S128_S16_64 rfl
  · exact piece_row r 3 _ rfl ![48] inb_S128_S16_48 rfl
  · exact piece_row r 2 _ rfl ![32] inb_S128_S16_32 rfl
  · exact piece_row r 1 _ rfl ![16] inb_S128_S16_16 rfl
  · exact piece_row r 0 _ rfl ![0] inb_S128_S16_0 rfl

set_option maxHeartbeats 4000000 in
set_option maxRecDepth 65536 in
/-- One tile of the second call: it ends with its row of the partial sums at `partsVal`. -/
theorem tile_body1 (q qe : PosShare TreeShare) (fx : Buf (Elt F) (xLoc d)) (fe : Buf (Elt F) (eLoc d)) (fs : Buf (Elt F) (sLoc d))
    (hx : ∀ j : S819200.Idx, (fx j : BitVec 32).toNat < 1000000)
    (O : CellTallies nD τ sig (HIx 2)) (W : Waits sig (HIx 2)) (hO : ∀ g, O g none = 0) :
    iprop(levAts (K (F := F)).L (K (F := F)).lev ∗ emp
        ∗ ((xLoc d ↦{q} fx) ∗ (eLoc d ↦{qe} fe) ∗ rowPts d L fs)
        ∗ scopedBufs 𝓉 ∗ scopedSems0 𝓉 ∗ owes 𝓉 O W)
      ⊢ wp frame (wpE (defs₀ (F := F)) 𝒱₀ 𝓉 none) Set.univ
          (cc1__tail_body L xV (Memref.isWhole_whole _) eV (Memref.isWhole_whole _) pV (Memref.isWhole_whole _) sV (Memref.isWhole_whole _) lV1 (Memref.isWhole_whole _) q0 (Memref.isWhole_whole _) q1 (Memref.isWhole_whole _) q2 (Memref.isWhole_whole _) q3 (Memref.isWhole_whole _) q4 (Memref.isWhole_whole _) aV (Memref.isWhole_whole _)
            cc1_scratch7 cc1_scratch8 cc1_scratch9 cc1_scratch10 cc1_scratch11 cc1_scoped0 cc1_scoped1)
          fun _ => iprop(((xLoc d ↦{q} fx) ∗ (eLoc d ↦{qe} fe) ∗ rowPts d L (partsVal fx fe))
            ∗ scopedBufs 𝓉 ∗ scopedSems0 𝓉
            ∗ ∃ W', ⌜∀ p ∈ W', p ∈ W ∨ p.2 = none⌝ ∗ owes 𝓉 O W') := by
  simp only [cc1__tail_body_eq_skeleton]; unfold cc1__tail_body_skel
  simp only [k1_part45_eq_skeleton]; unfold k1_part45_skel
  simp only [k1_part46_eq_skeleton]; unfold k1_part46_skel
  simp only [bind_assoc, pure_bind]
  obtain ⟨Xs, hXs⟩ := ownSems1_V (F := F) d L
  obtain ⟨Xb, hXb⟩ := ownBufs1_V (F := F) d L
  rw [(K (F := F)).scopedBufs_V facts d (c1 L) (i1 L), SparseCore.Cfg.scopedSems0_V (Val := Elt F) d (c1 L) (i1 L), hXs, hXb]
  unfold rowPts
  iintro ⟨#Hlv, -, ⟨Hx, He, Hp⟩, ⟨⟨%fl, Hl⟩, ⟨%f1, Hr0⟩, ⟨%f2, Hr1⟩, ⟨%f3, Hr2⟩, ⟨%f4, Hr3⟩, ⟨%f5, Hr4⟩, ⟨%fa, Ha⟩, Hbufs⟩,
    ⟨Hs7, Hs8, Hs9, Hs10, Hs11, Hq0, Hq1, Hsems⟩, HO⟩
  ihave Hmw := (show levAts (K (F := F)).L (K (F := F)).lev ⊢ Transfers.MayWaits 𝓉 (default : HIx 2) O from
    (K (F := F)).mayWaits_none (thr := 𝓉) hO) $$ Hlv
  ihave Hx := (Entails.of_eq (show (xLoc d ↦{q} fx : sProp 𝕄) = xV.view.loc 𝓉 ↦{q} fx from rfl)) $$ Hx
  ihave He := (Entails.of_eq (show (eLoc d ↦{qe} fe : sProp 𝕄) = eV.view.loc 𝓉 ↦{qe} fe from rfl)) $$ He
  ihave Hl := (Entails.of_eq (show ((𝓉).loc cc1_scratch0 ↦{fullShare} fl : sProp 𝕄) = lV1.view.loc 𝓉 ↦{fullShare} fl from rfl)) $$ Hl
  sl_exec
  ihave Hl := (list_filled1 d L fl fx (tile_body1.sl.dma0 d L fx) rfl) $$ Hl
  icases Hl with ⟨%g, %hg, Hl⟩
  ihave Hl := (Entails.of_eq (pieces_five (ℓ := lV1.view.loc 𝓉) g fullShare)) $$ Hl
  icases Hl with ⟨Hl0, Hl1, Hl2, Hl3, Hl4⟩
  ihave He := (Entails.of_eq (pieces_five (ℓ := eV.view.loc 𝓉) fe qe)) $$ He
  icases He with ⟨He0, He1, He2, He3, He4⟩
  iapply (wp_gather d (c1 L) (i1 L) defs₀ 𝒱₀ none (lV := lV1) (w := fun k => wordFrom fx (base1 L) (128 * 0 + k))
    (chunk_words1 d L hg _ 0 rfl _) (fun k _ => wordFrom_lt fx hx _ _)) $$ [Hr0 He0 Hl0 Hs7]
  · isplitl [Hr0]; · iapply (Entails.of_eq (pts_whole1 d L cc1_scratch1 f1)); iexact Hr0
    isplitl [He0]; · iexact He0
    isplitl [Hl0]; · iexact Hl0
    iexact Hs7
  iintro Hf0
  iapply (wp_gather d (c1 L) (i1 L) defs₀ 𝒱₀ none (lV := lV1) (w := fun k => wordFrom fx (base1 L) (128 * 1 + k))
    (chunk_words1 d L hg _ 1 rfl _) (fun k _ => wordFrom_lt fx hx _ _)) $$ [Hr1 He1 Hl1 Hs8]
  · isplitl [Hr1]; · iapply (Entails.of_eq (pts_whole1 d L cc1_scratch2 f2)); iexact Hr1
    isplitl [He1]; · iexact He1
    isplitl [Hl1]; · iexact Hl1
    iexact Hs8
  iintro Hf1
  iapply (wp_gather d (c1 L) (i1 L) defs₀ 𝒱₀ none (lV := lV1) (w := fun k => wordFrom fx (base1 L) (128 * 2 + k))
    (chunk_words1 d L hg _ 2 rfl _) (fun k _ => wordFrom_lt fx hx _ _)) $$ [Hr2 He2 Hl2 Hs9]
  · isplitl [Hr2]; · iapply (Entails.of_eq (pts_whole1 d L cc1_scratch3 f3)); iexact Hr2
    isplitl [He2]; · iexact He2
    isplitl [Hl2]; · iexact Hl2
    iexact Hs9
  iintro Hf2
  iapply (wp_gather d (c1 L) (i1 L) defs₀ 𝒱₀ none (lV := lV1) (w := fun k => wordFrom fx (base1 L) (128 * 3 + k))
    (chunk_words1 d L hg _ 3 rfl _) (fun k _ => wordFrom_lt fx hx _ _)) $$ [Hr3 He3 Hl3 Hs10]
  · isplitl [Hr3]; · iapply (Entails.of_eq (pts_whole1 d L cc1_scratch4 f4)); iexact Hr3
    isplitl [He3]; · iexact He3
    isplitl [Hl3]; · iexact Hl3
    iexact Hs10
  iintro Hf3
  iapply (wp_gather d (c1 L) (i1 L) defs₀ 𝒱₀ none (lV := lV1) (w := fun k => wordFrom fx (base1 L) (128 * 4 + k))
    (chunk_words1 d L hg _ 4 rfl _) (fun k _ => wordFrom_lt fx hx _ _)) $$ [Hr4 He4 Hl4 Hs11]
  · isplitl [Hr4]; · iapply (Entails.of_eq (pts_whole1 d L cc1_scratch5 f5)); iexact Hr4
    isplitl [He4]; · iexact He4
    isplitl [Hl4]; · iexact Hl4
    iexact Hs11
  iintro Hf4
  iapply (wp_then (wp_ring d L fx fe g hx hg (fun k => pc qe 5 (by decide) k) (fun k => pc fullShare 5 (by decide) k) O W _ _ _ _ _ _ _ _ _)) $$ [Hf0 Hf1 Hf2 Hf3 Hf4 HO]
  · unfold ringInv
    isplitl []; · iexact Hmw
    isplitl [Hf0]; · iapply (Entails.of_eq (slot_pend d L fx fe g q0 _ _ _ (c := 5 * 0 + 0) (by decide)).symm); iexact Hf0
    isplitl [Hf1]; · iapply (Entails.of_eq (slot_pend d L fx fe g q1 _ _ _ (c := 5 * 0 + 1) (by decide)).symm); iexact Hf1
    isplitl [Hf2]; · iapply (Entails.of_eq (slot_pend d L fx fe g q2 _ _ _ (c := 5 * 0 + 2) (by decide)).symm); iexact Hf2
    isplitl [Hf3]; · iapply (Entails.of_eq (slot_pend d L fx fe g q3 _ _ _ (c := 5 * 0 + 3) (by decide)).symm); iexact Hf3
    isplitl [Hf4]; · iapply (Entails.of_eq (slot_pend d L fx fe g q4 _ _ _ (c := 5 * 0 + 4) (by decide)).symm); iexact Hf4
    isplitl [HO]
    · unfold Ow; iexists _; isplitr
      swap; · iexact HO
      ipureintro; intro p hp
      rcases Finset.mem_insert.mp hp with rfl | hp
      · exact .inr rfl
      · exact .inl hp
    ipureintro; rfl
  iintro %r39 Hring
  unfold ringInv
  icases Hring with ⟨-, HS0, HS1, HS2, HS3, HS4, HO, %hr39⟩
  iapply (wp_landed' d L fx fe g O W (c := 5 * 39 + 0) (by decide)) $$ [HS0 HO]
  · isplitl [HS0]; · iexact HS0
    isplitl [HO]; · iexact HO
    iexact Hmw
  unfold Rows
  iintro ⟨⟨%g0, %hg0, Hr0⟩, He0, Hl0, Hs7, HO⟩
  iapply (wp_block7 d L _ _ _ _ _ _ _ _ _ g0) $$ Hr0
  iintro Hr0 %r %hr
  ihave HS1 := (Entails.of_eq (slot_idle d L fx fe g q1 _ _ _ (c := 5 * 39 + 1) (by decide))) $$ HS1
  ihave HS2 := (Entails.of_eq (slot_idle d L fx fe g q2 _ _ _ (c := 5 * 39 + 2) (by decide))) $$ HS2
  ihave HS3 := (Entails.of_eq (slot_idle d L fx fe g q3 _ _ _ (c := 5 * 39 + 3) (by decide))) $$ HS3
  ihave HS4 := (Entails.of_eq (slot_idle d L fx fe g q4 _ _ _ (c := 5 * 39 + 4) (by decide))) $$ HS4
  unfold Idle Ow
  icases HS1 with ⟨⟨%h1, Hr1⟩, He1, Hl1, Hs8⟩
  icases HS2 with ⟨⟨%h2, Hr2⟩, He2, Hl2, Hs9⟩
  icases HS3 with ⟨⟨%h3, Hr3⟩, He3, Hl3, Hs10⟩
  icases HS4 with ⟨⟨%h4, Hr4⟩, He4, Hl4, Hs11⟩
  icases HO with ⟨%W1, %hW1, HO⟩
  ihave Ha := (Entails.of_eq (pts_whole1 d L cc1_scratch6 fa)) $$ Ha
  sl_exec
  sl_step
  have hrow : rowOf (accAfter fx fe (base1 L) (zeroAcc F) 196) = tile_body1.sl.dma16 d L fa r := by
    refine Eq.trans ?_ (acc_stored d L fa r).symm
    rw [hr, hg0, hr39]
    rfl
  ihave Hp := (place_filled1 d L (sAt L) fs (partsVal (F := F) fx fe) (tile_body1.sl.dma16 d L fa r) ((sAt_read L fx fe).trans hrow)) $$ Hp
  isplitl [Hx He0 He1 He2 He3 He4 Hp]
  · isplitl [Hx]; · iexact Hx
    isplitl [He0 He1 He2 He3 He4]
    · iapply (Entails.of_eq (pieces_five (ℓ := eV.view.loc 𝓉) fe qe).symm)
      isplitl [He0]; · iexact He0
      isplitl [He1]; · iexact He1
      isplitl [He2]; · iexact He2
      isplitl [He3]; · iexact He3
      iexact He4
    iexact Hp
  isplitl [Hl0 Hl1 Hl2 Hl3 Hl4 Hr0 Hr1 Hr2 Hr3 Hr4 Ha Hbufs]
  · isplitl [Hl0 Hl1 Hl2 Hl3 Hl4]
    · iexists g
      iapply (Entails.of_eq (pieces_five (ℓ := lV1.view.loc 𝓉) g fullShare).symm)
      isplitl [Hl0]; · iexact Hl0
      isplitl [Hl1]; · iexact Hl1
      isplitl [Hl2]; · iexact Hl2
      isplitl [Hl3]; · iexact Hl3
      iexact Hl4
    isplitl [Hr0]; · iexists g0; iapply (Entails.of_eq (pts_whole1 d L cc1_scratch1 g0).symm); iexact Hr0
    isplitl [Hr1]; · iexists h1; iapply (Entails.of_eq (pts_whole1 d L cc1_scratch2 h1).symm); iexact Hr1
    isplitl [Hr2]; · iexists h2; iapply (Entails.of_eq (pts_whole1 d L cc1_scratch3 h2).symm); iexact Hr2
    isplitl [Hr3]; · iexists h3; iapply (Entails.of_eq (pts_whole1 d L cc1_scratch4 h3).symm); iexact Hr3
    isplitl [Hr4]; · iexists h4; iapply (Entails.of_eq (pts_whole1 d L cc1_scratch5 h4).symm); iexact Hr4
    isplitl [Ha]
    · iexists _
      iapply (Entails.of_eq (pts_whole1 d L cc1_scratch6 _).symm); iexact Ha
    iexact Hbufs
  isplitl [Hs7 Hs8 Hs9 Hs10 Hs11 Hq0 Hq1 Hsems]
  · isplitl [Hs7]; · iexact Hs7
    isplitl [Hs8]; · iexact Hs8
    isplitl [Hs9]; · iexact Hs9
    isplitl [Hs10]; · iexact Hs10
    isplitl [Hs11]; · iexact Hs11
    isplitl [Hq0]; · iexact Hq0
    isplitl [Hq1]; · iexact Hq1
    iexact Hsems
  iexists _; isplitr
  swap; · iexact HO
  ipureintro; intro p hp
  rcases Finset.mem_insert.mp hp with rfl | hp
  · exact .inr rfl
  · exact hW1 p hp

end

end Cert.Proof.Bag

end
-- ==== Proof.Calls.lean ====
/-
  What the two SparseCore calls take and bring back: each SparseCore and each of its tiles a share of the index list and
  of the table, and the tile's own part of the buffer the call writes.
-/
module

public import proofs.«01_k».proof.Proof.Single
public import proofs.«01_k».proof.Proof.TailBody

@[expose] public section

noncomputable section

namespace Cert.Proof.Bag

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F] [Named F]

local notation "𝕄" => MT nD τ sig (HIx 2) (Elt F) ℕ UU ℕ

/-- A tile by its SparseCore and its number there. -/
abbrev crd0 (c : Fin 2) (i : Fin 16) : grid0.Coords := fun | 0 => c | 1 => i | ⟨_ + 2, h⟩ => absurd h (Nat.not_lt.2 (Nat.le_add_left _ _))
abbrev crd1 (c : Fin 2) (i : Fin 16) : grid1.Coords := fun | 0 => c | 1 => i | ⟨_ + 2, h⟩ => absurd h (Nat.not_lt.2 (Nat.le_add_left _ _))

/-! ## The tiles' parts of the two buffers -/

/-- Rows `1024 * i + 512 * c + 128 * j` on, 128 of them. -/
def poolSet (p : Fin 2 × Fin 16 × Fin 4) : Finset S16384x128.Idx :=
  Finset.univ.filter fun y => 1024 * p.2.1.val + 512 * p.1.val + 128 * p.2.2.val ≤ (y 0).val ∧ (y 0).val < 1024 * p.2.1.val + 512 * p.1.val + 128 * p.2.2.val + 128

theorem pAt_set (c : Fin 2) (i : Fin 16) (j : Fin 4) (w : BitVec 32) (hw : w = BitVec.ofNat 32 (128 * j.val))
    (inb : ∀ a, (k0_off2 (crd0 c i) w) a + S128x128.size a ≤ S16384x128.size a) :
    (pV.slice (Rect.unit (s := S16384x128) (k0_off2 (crd0 c i) w) S128x128.size inb) (fun _ => rfl)).view.set = poolSet (c, i, j) := by
  subst hw
  have he : k0_off2 (crd0 c i) (BitVec.ofNat 32 (128 * j.val)) 0 = 1024 * i.val + 512 * c.val + 128 * j.val := by rw [k0_off2_eq]; rfl
  have he1 : k0_off2 (crd0 c i) (BitVec.ofNat 32 (128 * j.val)) 1 = 0 := by rw [k0_off2_eq]; rfl
  have e : (pV.slice (Rect.unit (s := S16384x128) (k0_off2 (crd0 c i) (BitVec.ofNat 32 (128 * j.val))) S128x128.size inb) (fun _ => rfl)).view.set
      = (Rect.unit (s := S16384x128) (k0_off2 (crd0 c i) (BitVec.ofNat 32 (128 * j.val))) S128x128.size inb).set := by
    show ((View.whole (main_v0_scv : Ref sig .scVector)).slice _).set = _
    rw [View.set_slice]; exact Finset.map_refl
  rw [e]
  ext y
  rw [Rect.mem_set_unit]
  simp only [poolSet, Finset.mem_filter, Finset.mem_univ, true_and]
  constructor
  · intro h; have h0 := h 0; rw [he] at h0; exact h0
  · intro h a
    match a with
    | 0 => rw [he]; exact h
    | 1 =>
      have h1 : (y 1).val < 128 := (y 1).isLt
      rw [he1]; exact ⟨Nat.zero_le _, by show (y 1).val < 0 + 128; omega⟩

theorem poolSet_disjoint : ∀ p ∈ (Finset.univ : Finset (Fin 2 × Fin 16 × Fin 4)), ∀ p' ∈ (Finset.univ : Finset (Fin 2 × Fin 16 × Fin 4)), p ≠ p' →
    Disjoint (poolSet p) (poolSet p') := by
  intro p _ p' _ hne
  rw [Finset.disjoint_left]
  intro y hy hy'
  simp only [poolSet, Finset.mem_filter, Finset.mem_univ, true_and] at hy hy'
  obtain ⟨c, i, j⟩ := p
  obtain ⟨c', i', j'⟩ := p'
  have := c.isLt; have := c'.isLt; have := j.isLt; have := j'.isLt
  simp only at hy hy'
  refine hne ?_
  have hi : i = i' := Fin.ext (by omega)
  have hc : c = c' := Fin.ext (by omega)
  have hj : j = j' := Fin.ext (by omega)
  rw [hi, hc, hj]

theorem poolSet_cover : (Finset.univ : Finset (Fin 2 × Fin 16 × Fin 4)).biUnion poolSet = Finset.univ := by
  ext y
  simp only [Finset.mem_biUnion, Finset.mem_univ, true_and, iff_true]
  have hy : (y 0).val < 16384 := (y 0).isLt
  refine ⟨(⟨(y 0).val / 512 % 2, by omega⟩, ⟨(y 0).val / 1024, by omega⟩, ⟨(y 0).val / 128 % 4, by omega⟩), ?_⟩
  simp only [poolSet, Finset.mem_filter, Finset.mem_univ, true_and]
  omega

/-- The pooled table, as the tiles' parts. -/
theorem pool_split (d : Dev nD) (f : Buf (Elt F) (pLoc d)) :
    (pLoc d ↦{fullShare} f : sProp 𝕄) = bigSep Finset.univ fun c : Fin 2 => bigSep Finset.univ fun i : Fin 16 => poolPts d (crd0 c i) f := by
  have h := pointsTo_biUnion (q := fullShare) (f := f) (Val := Elt F) (Name := ℕ) (U := UU) (Ix := HIx 2) (Lvl := ℕ) Finset.univ (ℓ := pLoc d) poolSet poolSet_disjoint
  rw [poolSet_cover] at h
  rw [h, bigSep_univ_prod]
  refine bigSep_congr fun c _ => ?_
  rw [bigSep_univ_prod]
  refine bigSep_congr fun i _ => ?_
  rw [bigSep_four]
  unfold poolPts
  rw [pAt_set c i 0 0#32 rfl, pAt_set c i 1 128#32 rfl, pAt_set c i 2 256#32 rfl, pAt_set c i 3 384#32 rfl]

/-- Row `2 * i + c` of the table of partial sums. -/
def rowSet (p : Fin 2 × Fin 16) : Finset S32x128.Idx := Finset.univ.filter fun y => (y 0).val = 2 * p.2.val + p.1.val

theorem sAt_set (c : Fin 2) (i : Fin 16) : (sAt (crd1 c i)).view.set = rowSet (c, i) := by
  have he : k1_off56 (crd1 c i) 0 = 2 * i.val + c.val := by rw [k1_off56_eq]; rfl
  have he1 : k1_off56 (crd1 c i) 1 = 0 := by rw [k1_off56_eq]; rfl
  have e : (sAt (crd1 c i)).view.set = (Rect.unit (s := S32x128) (k1_off56 (crd1 c i)) S1x128.size (k1_off56_inb (crd1 c i))).set := by
    show (((View.whole (main_v1_scv : Ref sig .scVector)).slice (Rect.unit (s := S32x128) (k1_off56 (crd1 c i)) S1x128.size (k1_off56_inb (crd1 c i)))).reshape _ _).set = _
    rw [View.set_reshape, View.set_slice]; exact Finset.map_refl
  rw [e]
  ext y
  rw [Rect.mem_set_unit]
  simp only [rowSet, Finset.mem_filter, Finset.mem_univ, true_and]
  constructor
  · intro h
    have h0 : k1_off56 (crd1 c i) 0 ≤ (y 0).val ∧ (y 0).val < k1_off56 (crd1 c i) 0 + 1 := h 0
    rw [he] at h0; omega
  · intro h a
    match a with
    | 0 => show k1_off56 (crd1 c i) 0 ≤ (y 0).val ∧ (y 0).val < k1_off56 (crd1 c i) 0 + 1; rw [he]; omega
    | 1 =>
      have h1 : (y 1).val < 128 := (y 1).isLt
      rw [he1]; exact ⟨Nat.zero_le _, by show (y 1).val < 0 + 128; omega⟩

theorem rowSet_disjoint : ∀ p ∈ (Finset.univ : Finset (Fin 2 × Fin 16)), ∀ p' ∈ (Finset.univ : Finset (Fin 2 × Fin 16)), p ≠ p' →
    Disjoint (rowSet p) (rowSet p') := by
  intro p _ p' _ hne
  rw [Finset.disjoint_left]
  intro y hy hy'
  simp only [rowSet, Finset.mem_filter, Finset.mem_univ, true_and] at hy hy'
  obtain ⟨c, i⟩ := p
  obtain ⟨c', i'⟩ := p'
  have := c.isLt; have := c'.isLt
  simp only at hy hy'
  refine hne ?_
  have hi : i = i' := Fin.ext (by omega)
  have hc : c = c' := Fin.ext (by omega)
  rw [hi, hc]

theorem rowSet_cover : (Finset.univ : Finset (Fin 2 × Fin 16)).biUnion rowSet = Finset.univ := by
  ext y
  simp only [Finset.mem_biUnion, Finset.mem_univ, true_and, iff_true]
  have hy : (y 0).val < 32 := (y 0).isLt
  refine ⟨(⟨(y 0).val % 2, by omega⟩, ⟨(y 0).val / 2, by omega⟩), ?_⟩
  simp only [rowSet, Finset.mem_filter, Finset.mem_univ, true_and]
  omega

/-- The table of partial sums, as the tiles' rows. -/
theorem rows_split (d : Dev nD) (f : Buf (Elt F) (sLoc d)) :
    (sLoc d ↦{fullShare} f : sProp 𝕄) = bigSep Finset.univ fun c : Fin 2 => bigSep Finset.univ fun i : Fin 16 => rowPts d (crd1 c i) f := by
  have h := pointsTo_biUnion (q := fullShare) (f := f) (Val := Elt F) (Name := ℕ) (U := UU) (Ix := HIx 2) (Lvl := ℕ) Finset.univ (ℓ := sLoc d) rowSet rowSet_disjoint
  rw [rowSet_cover] at h
  rw [h, bigSep_univ_prod]
  refine bigSep_congr fun c _ => bigSep_congr fun i _ => ?_
  unfold rowPts
  rw [sAt_set c i]

/-! ## The payloads -/

/-- A SparseCore's share of a buffer that all read, and a tile's. -/
abbrev qC (c : Fin 2) : PosShare TreeShare := pc fullShare 2 (by decide) c
abbrev qT (c : Fin 2) (i : Fin 16) : PosShare TreeShare := pc (qC c) 16 (by decide) i

theorem share_cores {ℓ : Loc nD τ sig} (f : Buf (Elt F) ℓ) :
    (ℓ ↦{fullShare} f : sProp 𝕄) = bigSep Finset.univ fun c : Fin 2 => ℓ ↦{qC c} f := pointsTo_piecesOf Finset.univ f (by decide) fullShare
theorem share_tiles {ℓ : Loc nD τ sig} (f : Buf (Elt F) ℓ) (c : Fin 2) :
    (ℓ ↦{qC c} f : sProp 𝕄) = bigSep Finset.univ fun i : Fin 16 => ℓ ↦{qT c i} f := pointsTo_piecesOf Finset.univ f (by decide) (qC c)

variable (m : (ℓ : Loc nD τ sig) → Buf (Elt F) ℓ)

/-- What SparseCore `c` takes to the first call with the pooled table at `f`, and its tile `i`. -/
def cPay0 (d : Dev nD) (f : Buf (Elt F) (pLoc d)) (c : Fin 2) : sProp 𝕄 :=
  iprop((xLoc d ↦{qC c} m (xLoc d)) ∗ (eLoc d ↦{qC c} m (eLoc d)) ∗ bigSep Finset.univ fun i : Fin 16 => poolPts d (crd0 c i) f)
def tPay0 (d : Dev nD) (f : Buf (Elt F) (pLoc d)) (c : Fin 2) (i : Fin 16) : sProp 𝕄 :=
  iprop((xLoc d ↦{qT c i} m (xLoc d)) ∗ (eLoc d ↦{qT c i} m (eLoc d)) ∗ poolPts d (crd0 c i) f)

/-- The same of the second call, with the table of partial sums at `f`. -/
def cPay1 (d : Dev nD) (f : Buf (Elt F) (sLoc d)) (c : Fin 2) : sProp 𝕄 :=
  iprop((xLoc d ↦{qC c} m (xLoc d)) ∗ (eLoc d ↦{qC c} m (eLoc d)) ∗ bigSep Finset.univ fun i : Fin 16 => rowPts d (crd1 c i) f)
def tPay1 (d : Dev nD) (f : Buf (Elt F) (sLoc d)) (c : Fin 2) (i : Fin 16) : sProp 𝕄 :=
  iprop((xLoc d ↦{qT c i} m (xLoc d)) ∗ (eLoc d ↦{qT c i} m (eLoc d)) ∗ rowPts d (crd1 c i) f)

theorem cPay0_tiles (d : Dev nD) (f : Buf (Elt F) (pLoc d)) (c : Fin 2) : cPay0 m d f c = bigSep Finset.univ fun i : Fin 16 => tPay0 m d f c i := by
  unfold cPay0 tPay0
  rw [bigSep_sep', bigSep_sep', share_tiles, share_tiles]
theorem cPay1_tiles (d : Dev nD) (f : Buf (Elt F) (sLoc d)) (c : Fin 2) : cPay1 m d f c = bigSep Finset.univ fun i : Fin 16 => tPay1 m d f c i := by
  unfold cPay1 tPay1
  rw [bigSep_sep', bigSep_sep', share_tiles, share_tiles]
theorem cPay0_all (d : Dev nD) (f : Buf (Elt F) (pLoc d)) : (bigSep Finset.univ fun c : Fin 2 => cPay0 m d f c)
    = iprop((xLoc d ↦{fullShare} m (xLoc d)) ∗ (eLoc d ↦{fullShare} m (eLoc d)) ∗ pLoc d ↦{fullShare} f) := by
  unfold cPay0
  rw [bigSep_sep', bigSep_sep', ← share_cores, ← share_cores, ← pool_split]
theorem cPay1_all (d : Dev nD) (f : Buf (Elt F) (sLoc d)) : (bigSep Finset.univ fun c : Fin 2 => cPay1 m d f c)
    = iprop((xLoc d ↦{fullShare} m (xLoc d)) ∗ (eLoc d ↦{fullShare} m (eLoc d)) ∗ sLoc d ↦{fullShare} f) := by
  unfold cPay1
  rw [bigSep_sep', bigSep_sep', ← share_cores, ← share_cores, ← rows_split]

instance cPay0_storable (d : Dev nD) (f : Buf (Elt F) (pLoc d)) (c : Fin 2) : BI.Storable (upEmb : UEmb _ 𝕄) (cPay0 m d f c) := by
  unfold cPay0 poolPts; infer_instance
instance tPay0_storable (d : Dev nD) (f : Buf (Elt F) (pLoc d)) (c : Fin 2) (i : Fin 16) : BI.Storable (upEmb : UEmb _ 𝕄) (tPay0 m d f c i) := by
  unfold tPay0 poolPts; infer_instance
instance cPay1_storable (d : Dev nD) (f : Buf (Elt F) (sLoc d)) (c : Fin 2) : BI.Storable (upEmb : UEmb _ 𝕄) (cPay1 m d f c) := by
  unfold cPay1 rowPts; infer_instance
instance tPay1_storable (d : Dev nD) (f : Buf (Elt F) (sLoc d)) (c : Fin 2) (i : Fin 16) : BI.Storable (upEmb : UEmb _ 𝕄) (tPay1 m d f c i) := by
  unfold tPay1 rowPts; infer_instance

theorem nCore0 : (K (F := F)).nCore 0 = 2 := rfl
theorem nCore1 : (K (F := F)).nCore 1 = 2 := rfl
theorem nSub0 : (K (F := F)).nSub 0 = 16 := rfl
theorem nSub1 : (K (F := F)).nSub 1 = 16 := rfl

/-- The pooled table and the partial sums that the calls leave. -/
abbrev pool (d : Dev nD) : Buf (Elt F) (pLoc d) := pooledVal (F := F) (m (xLoc d)) (m (eLoc d))
abbrev parts (d : Dev nD) : Buf (Elt F) (sLoc d) := partsVal (F := F) (m (xLoc d)) (m (eLoc d))

def P : (K (F := F)).Pay (nD := nD) (Val := Elt F) (Name := ℕ) (U := UU) where
  st := fun q d c => match q with
    | 0 => cPay0 m d (m (pLoc d)) (Fin.cast nCore0 c)
    | 1 => cPay1 m d (m (sLoc d)) (Fin.cast nCore1 c)
  dn := fun q d c => match q with
    | 0 => cPay0 m d (pool m d) (Fin.cast nCore0 c)
    | 1 => cPay1 m d (parts m d) (Fin.cast nCore1 c)
  go := fun q d c i => match q with
    | 0 => tPay0 m d (m (pLoc d)) (Fin.cast nCore0 c) (Fin.cast nSub0 i)
    | 1 => tPay1 m d (m (sLoc d)) (Fin.cast nCore1 c) (Fin.cast nSub1 i)
  td := fun q d c i => match q with
    | 0 => tPay0 m d (pool m d) (Fin.cast nCore0 c) (Fin.cast nSub0 i)
    | 1 => tPay1 m d (parts m d) (Fin.cast nCore1 c) (Fin.cast nSub1 i)
  x := fun _ _ => iprop(emp)

instance P_storable : (P (F := F) m).IsStorable where
  st q d c := match q with | 0 => cPay0_storable m d _ _ | 1 => cPay1_storable m d _ _
  dn q d c := match q with | 0 => cPay0_storable m d _ _ | 1 => cPay1_storable m d _ _
  go q d c i := match q with | 0 => tPay0_storable m d _ _ _ | 1 => tPay1_storable m d _ _ _
  td q d c i := match q with | 0 => tPay0_storable m d _ _ _ | 1 => tPay1_storable m d _ _ _

/-! ## The tiles' obligations -/

/-- What the proof asks of the launch memory: every word of the list names a row of the table. -/
def PreOK : Prop := ∀ (d : Dev nD) (j : S819200.Idx), ((m (xLoc d) j : BitVec 32)).toNat < 1000000

theorem obl_post {thr : Thread nD τ} {A B C : sProp 𝕄} {W : Waits sig (HIx 2)} {O : CellTallies nD τ sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem row_0 (c : Fin τ.nSC) (s : Fin τ.nSub) :
    defs₀ (F := F) (.scVector c s) 0 ()
      = SparseCore.onTile hcore0 hsub0 (fun c s => cc0__single_body (crd0 c s) xV (Memref.isWhole_whole _) eV (Memref.isWhole_whole _) pV (Memref.isWhole_whole _)
            lV0 (Memref.isWhole_whole _) rA (Memref.isWhole_whole _) rB (Memref.isWhole_whole _) rC (Memref.isWhole_whole _)
            rD (Memref.isWhole_whole _) rE (Memref.isWhole_whole _) cc0_scratch6 cc0_scratch7 cc0_scratch8 cc0_scratch9 cc0_scratch10
            cc0_scoped0 cc0_scoped1 cc0_scoped2 cc0_scoped3 cc0_scoped4) ⟨⟩ c s := rfl

set_option maxRecDepth 16384 in
theorem tileObl0 (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [row_0]; simp only [SparseCore.onTile, hci, and_self, ↓reduceDIte]
  exact (tile_body0 d (crd0 ⟨_, hci.1⟩ ⟨_, hci.2⟩) _ _ (m (xLoc d)) (m (eLoc d)) (m (pLoc d)) (hpre d) O W hO).trans
    (wp_mono frame _ _ fun _ => obl_post)

theorem row_1 (c : Fin τ.nSC) (s : Fin τ.nSub) :
    defs₀ (F := F) (.scVector c s) 1 ()
      = SparseCore.onTile hcore1 hsub1 (fun c s => cc1__tail_body (crd1 c s) xV (Memref.isWhole_whole _) eV (Memref.isWhole_whole _) pV (Memref.isWhole_whole _) sV (Memref.isWhole_whole _)
            lV1 (Memref.isWhole_whole _) q0 (Memref.isWhole_whole _) q1 (Memref.isWhole_whole _) q2 (Memref.isWhole_whole _) q3 (Memref.isWhole_whole _)
            q4 (Memref.isWhole_whole _) aV (Memref.isWhole_whole _) cc1_scratch7 cc1_scratch8 cc1_scratch9 cc1_scratch10 cc1_scratch11 cc1_scoped0 cc1_scoped1) ⟨⟩ c s := rfl

set_option maxRecDepth 16384 in
theorem tileObl1 (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [row_1]; simp only [SparseCore.onTile, hci, and_self, ↓reduceDIte]
  exact (tile_body1 d (crd1 ⟨_, hci.1⟩ ⟨_, hci.2⟩) _ _ (m (xLoc d)) (m (eLoc d)) (m (sLoc d)) (hpre d) O W hO).trans
    (wp_mono frame _ _ fun _ => obl_post)

/-! ## A SparseCore's payload among its tiles -/

theorem vecSplit0 : (K (F := F)).VecSplit' (P m) 0 := by
  intro d c
  show cPay0 m d (m (pLoc d)) (Fin.cast nCore0 c) ⊢ |={Set.univ}=> iprop(
      (bigSep Finset.univ fun i : Fin ((K (F := F)).nSub 0) => tPay0 m d (m (pLoc d)) (Fin.cast nCore0 c) (Fin.cast nSub0 i))
      ∗ ((bigSep Finset.univ fun i : Fin ((K (F := F)).nSub 0) => tPay0 m d (pool m d) (Fin.cast nCore0 c) (Fin.cast nSub0 i))
        -∗ cPay0 m d (pool m d) (Fin.cast nCore0 c)))
  rw [cPay0_tiles, cPay0_tiles]
  iintro H; imodintro
  isplitl [H]; · iexact H
  iintro H; iexact H

theorem vecSplit1 : (K (F := F)).VecSplit' (P m) 1 := by
  intro d c
  show cPay1 m d (m (sLoc d)) (Fin.cast nCore1 c) ⊢ |={Set.univ}=> iprop(
      (bigSep Finset.univ fun i : Fin ((K (F := F)).nSub 1) => tPay1 m d (m (sLoc d)) (Fin.cast nCore1 c) (Fin.cast nSub1 i))
      ∗ ((bigSep Finset.univ fun i : Fin ((K (F := F)).nSub 1) => tPay1 m d (parts m d) (Fin.cast nCore1 c) (Fin.cast nSub1 i))
        -∗ cPay1 m d (parts m d) (Fin.cast nCore1 c)))
  rw [cPay1_tiles, cPay1_tiles]
  iintro H; imodintro
  isplitl [H]; · iexact H
  iintro H; iexact H

end Cert.Proof.Bag

end
-- ==== Proof.Dense.lean ====
/-
  The two TensorCore calls: the dense layers over the pooled rows, and over the last row.
-/
module

public import proofs.«01_k».proof.Proof.Common
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.FrameBody
public import Idealize.ShloMosaic.Lib.Pipeline.Value

@[expose] public section

noncomputable section

namespace Cert.Proof.Bag

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F] [Named F]

local notation "𝕄" => MT nD τ sig (HIx 2) (Elt F) ℕ UU ℕ

/-! ## The two bodies -/

/-- A whole buffer of the TensorCore, at `f`. -/
abbrev pt (c : Dev nD) (b : Ref sig .tc) (f : b.ty.Contents (Elt F)) : sProp 𝕄 := (Memref.whole b).view.loc (c : Thread nD τ) ↦{fullShare} f

set_option backward.isDefEq.respectTransparency.types false in
/-- A store of a whole buffer leaves what it stores. -/
theorem stored_whole (b : Ref sig .tc) {off : Fin b.ty.shape.rank → Nat} (h : off = fun _ => 0)
    (inb : ∀ a, off a + b.ty.shape.size a ≤ b.ty.shape.size a) (f w : b.ty.Contents (Elt F)) :
    (Memref.whole b).view.writes (Elt F) f [⟨Rect.unit off b.ty.shape.size inb, w⟩] = w :=
  Memref.write_access_unit_zero_univ (Elt F) b h inb f w

theorem zero2 : (![0, 0] : Fin 2 → Nat) = fun _ => 0 := funext fun a => by fin_cases a <;> rfl

/-- The dense layers over the pooled rows. -/
theorem mlp_body (c : Dev nD) (f0 : S16384x128.Idx → Elt F .f32) (f1 : S100x128.Idx → Elt F .f32) (f2 : S1x100.Idx → Elt F .f32) (f3 : S100x100.Idx → Elt F .f32) (f4 : S1x100.Idx → Elt F .f32) (f5 : S6x100.Idx → Elt F .f32) (f6 : S6x1.Idx → Elt F .f32) (f7 : S6x16384.Idx → Elt F .f32) (Q : PUnit → sProp 𝕄) :
    iprop(pt c cc2_stg0_0 f0 ∗ pt c cc2_stg1_0 f1 ∗ pt c cc2_stg2_0 f2 ∗ pt c cc2_stg3_0 f3 ∗ pt c cc2_stg4_0 f4 ∗ pt c cc2_stg5_0 f5 ∗ pt c cc2_stg6_0 f6 ∗ pt c cc2_stg7_0 f7
        ∗ (iprop(pt c cc2_stg0_0 f0 ∗ pt c cc2_stg1_0 f1 ∗ pt c cc2_stg2_0 f2 ∗ pt c cc2_stg3_0 f3 ∗ pt c cc2_stg4_0 f4 ∗ pt c cc2_stg5_0 f5 ∗ pt c cc2_stg6_0 f6
            ∗ pt c cc2_stg7_0 (k2_pay1 f0 f1 f2 f3 f4 f5 f6)) -∗ Q ⟨⟩))
      ⊢ wp frame (wpE (defs₀ (F := F)) Variants.none (c : Thread nD τ) none) Set.univ
          (cc2__mlp_body (stage2_0 0) (hstage2_0 0) (stage2_1 0) (hstage2_1 0) (stage2_2 0) (hstage2_2 0) (stage2_3 0) (hstage2_3 0) (stage2_4 0) (hstage2_4 0) (stage2_5 0) (hstage2_5 0) (stage2_6 0) (hstage2_6 0) (stage2_7 0) (hstage2_7 0)) Q := by
  simp only [cc2__mlp_body_eq_skeleton]; unfold cc2__mlp_body_skel
  iintro ⟨H0, H1, H2, H3, H4, H5, H6, H7, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  have e : ∀ w : S6x16384.Idx → Elt F .f32, (Memref.whole cc2_stg7_0).view.writes (Elt F) f7
      [⟨Rect.unit ![0, 0] S6x16384.size inb_S6x16384_S6x16384_0_0, w⟩] = w :=
    fun w => stored_whole cc2_stg7_0 zero2 inb_S6x16384_S6x16384_0_0 f7 w
  have e0 : View.readAt (Elt F) (Memref.whole cc2_stg0_0).view (Rect.unit ![0, 0] S16384x128.size inb_S16384x128_S16384x128_0_0).toLoadRect f0 = f0 :=
    Memref.readAt_unit_zero (Elt F) cc2_stg0_0 zero2 _ f0
  have e1 : View.readAt (Elt F) (Memref.whole cc2_stg1_0).view (Rect.unit ![0, 0] S100x128.size inb_S100x128_S100x128_0_0).toLoadRect f1 = f1 :=
    Memref.readAt_unit_zero (Elt F) cc2_stg1_0 zero2 _ f1
  have e2 : View.readAt (Elt F) (Memref.whole cc2_stg2_0).view (Rect.unit ![0, 0] S1x100.size inb_S1x100_S1x100_0_0).toLoadRect f2 = f2 :=
    Memref.readAt_unit_zero (Elt F) cc2_stg2_0 zero2 _ f2
  have e3 : View.readAt (Elt F) (Memref.whole cc2_stg3_0).view (Rect.unit ![0, 0] S100x100.size inb_S100x100_S100x100_0_0).toLoadRect f3 = f3 :=
    Memref.readAt_unit_zero (Elt F) cc2_stg3_0 zero2 _ f3
  have e4 : View.readAt (Elt F) (Memref.whole cc2_stg4_0).view (Rect.unit ![0, 0] S1x100.size inb_S1x100_S1x100_0_0).toLoadRect f4 = f4 :=
    Memref.readAt_unit_zero (Elt F) cc2_stg4_0 zero2 _ f4
  have e5 : View.readAt (Elt F) (Memref.whole cc2_stg5_0).view (Rect.unit ![0, 0] S6x100.size inb_S6x100_S6x100_0_0).toLoadRect f5 = f5 :=
    Memref.readAt_unit_zero (Elt F) cc2_stg5_0 zero2 _ f5
  have e6 : View.readAt (Elt F) (Memref.whole cc2_stg6_0).view (Rect.unit ![0, 0] S6x1.size inb_S6x1_S6x1_0_0).toLoadRect f6 = f6 :=
    Memref.readAt_unit_zero (Elt F) cc2_stg6_0 zero2 _ f6
  rw [e, e0, e1, e2, e3, e4, e5, e6]
  iexact H7

/-- The mean of the last bag, and the dense layers over it. -/
theorem fix_body (c : Dev nD) (f0 : S32x128.Idx → Elt F .f32) (f1 : S1x128.Idx → Elt F .f32) (f2 : S100x128.Idx → Elt F .f32) (f3 : S1x100.Idx → Elt F .f32) (f4 : S100x100.Idx → Elt F .f32) (f5 : S1x100.Idx → Elt F .f32) (f6 : S6x100.Idx → Elt F .f32) (f7 : S1x6.Idx → Elt F .f32) (f8 : S1x6.Idx → Elt F .f32) (Q : PUnit → sProp 𝕄) :
    iprop(pt c cc3_stg0_0 f0 ∗ pt c cc3_stg1_0 f1 ∗ pt c cc3_stg2_0 f2 ∗ pt c cc3_stg3_0 f3 ∗ pt c cc3_stg4_0 f4 ∗ pt c cc3_stg5_0 f5 ∗ pt c cc3_stg6_0 f6 ∗ pt c cc3_stg7_0 f7 ∗ pt c cc3_stg8_0 f8
        ∗ (iprop(pt c cc3_stg0_0 f0 ∗ pt c cc3_stg1_0 f1 ∗ pt c cc3_stg2_0 f2 ∗ pt c cc3_stg3_0 f3 ∗ pt c cc3_stg4_0 f4 ∗ pt c cc3_stg5_0 f5 ∗ pt c cc3_stg6_0 f6 ∗ pt c cc3_stg7_0 f7
            ∗ pt c cc3_stg8_0 (k3_pay1 f0 f1 f2 f3 f4 f5 f6 f7)) -∗ Q ⟨⟩))
      ⊢ wp frame (wpE (defs₀ (F := F)) Variants.none (c : Thread nD τ) none) Set.univ
          (cc3__fix_body (stage3_0 0) (hstage3_0 0) (stage3_1 0) (hstage3_1 0) (stage3_2 0) (hstage3_2 0) (stage3_3 0) (hstage3_3 0) (stage3_4 0) (hstage3_4 0) (stage3_5 0) (hstage3_5 0) (stage3_6 0) (hstage3_6 0) (stage3_7 0) (hstage3_7 0) (stage3_8 0) (hstage3_8 0)) Q := by
  simp only [cc3__fix_body_eq_skeleton]; unfold cc3__fix_body_skel
  iintro ⟨H0, H1, H2, H3, H4, H5, H6, H7, H8, Hk⟩
  sl_exec
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  have e : ∀ w : S1x6.Idx → Elt F .f32, (Memref.whole cc3_stg8_0).view.writes (Elt F) f8
      [⟨Rect.unit ![0, 0] S1x6.size inb_S1x6_S1x6_0_0, w⟩] = w :=
    fun w => stored_whole cc3_stg8_0 zero2 inb_S1x6_S1x6_0_0 f8 w
  have e0 : View.readAt (Elt F) (Memref.whole cc3_stg0_0).view (Rect.unit ![0, 0] S32x128.size inb_S32x128_S32x128_0_0).toLoadRect f0 = f0 :=
    Memref.readAt_unit_zero (Elt F) cc3_stg0_0 zero2 _ f0
  have e1 : View.readAt (Elt F) (Memref.whole cc3_stg1_0).view (Rect.unit ![0, 0] S1x128.size inb_S1x128_S1x128_0_0).toLoadRect f1 = f1 :=
    Memref.readAt_unit_zero (Elt F) cc3_stg1_0 zero2 _ f1
  have e2 : View.readAt (Elt F) (Memref.whole cc3_stg2_0).view (Rect.unit ![0, 0] S100x128.size inb_S100x128_S100x128_0_0).toLoadRect f2 = f2 :=
    Memref.readAt_unit_zero (Elt F) cc3_stg2_0 zero2 _ f2
  have e3 : View.readAt (Elt F) (Memref.whole cc3_stg3_0).view (Rect.unit ![0, 0] S1x100.size inb_S1x100_S1x100_0_0).toLoadRect f3 = f3 :=
    Memref.readAt_unit_zero (Elt F) cc3_stg3_0 zero2 _ f3
  have e4 : View.readAt (Elt F) (Memref.whole cc3_stg4_0).view (Rect.unit ![0, 0] S100x100.size inb_S100x100_S100x100_0_0).toLoadRect f4 = f4 :=
    Memref.readAt_unit_zero (Elt F) cc3_stg4_0 zero2 _ f4
  have e5 : View.readAt (Elt F) (Memref.whole cc3_stg5_0).view (Rect.unit ![0, 0] S1x100.size inb_S1x100_S1x100_0_0).toLoadRect f5 = f5 :=
    Memref.readAt_unit_zero (Elt F) cc3_stg5_0 zero2 _ f5
  have e6 : View.readAt (Elt F) (Memref.whole cc3_stg6_0).view (Rect.unit ![0, 0] S6x100.size inb_S6x100_S6x100_0_0).toLoadRect f6 = f6 :=
    Memref.readAt_unit_zero (Elt F) cc3_stg6_0 zero2 _ f6
  have e7 : View.readAt (Elt F) (Memref.whole cc3_stg7_0).view (Rect.unit ![0, 0] S1x6.size inb_S1x6_S1x6_0_0).toLoadRect f7 = f7 :=
    Memref.readAt_unit_zero (Elt F) cc3_stg7_0 zero2 _ f7
  rw [e, e0, e1, e2, e3, e4, e5, e6, e7]
  iexact H8

/-! ## The blocks are whole arrays -/

theorem blk2_0 (f : S16384x128.Idx → Elt F .f32) : ((cfg2.win 0).blk t2_0).view.read (Elt F) f = f :=
  Memref.readAt_unit_zero (Elt F) main_v0 (funext fun _ => Nat.zero_mul _) _ f
theorem blk2_1 (f : S100x128.Idx → Elt F .f32) : ((cfg2.win 1).blk t2_0).view.read (Elt F) f = f :=
  Memref.readAt_unit_zero (Elt F) main_arg3 (funext fun _ => Nat.zero_mul _) _ f
theorem blk2_2 (f : S1x100.Idx → Elt F .f32) : ((cfg2.win 2).blk t2_0).view.read (Elt F) f = f :=
  Memref.readAt_unit_zero (Elt F) main_v2 (funext fun _ => Nat.zero_mul _) _ f
theorem blk2_3 (f : S100x100.Idx → Elt F .f32) : ((cfg2.win 3).blk t2_0).view.read (Elt F) f = f :=
  Memref.readAt_unit_zero (Elt F) main_arg5 (funext fun _ => Nat.zero_mul _) _ f
theorem blk2_4 (f : S1x100.Idx → Elt F .f32) : ((cfg2.win 4).blk t2_0).view.read (Elt F) f = f :=
  Memref.readAt_unit_zero (Elt F) main_v3 (funext fun _ => Nat.zero_mul _) _ f
theorem blk2_5 (f : S6x100.Idx → Elt F .f32) : ((cfg2.win 5).blk t2_0).view.read (Elt F) f = f :=
  Memref.readAt_unit_zero (Elt F) main_arg7 (funext fun _ => Nat.zero_mul _) _ f
theorem blk2_6 (f : S6x1.Idx → Elt F .f32) : ((cfg2.win 6).blk t2_0).view.read (Elt F) f = f :=
  Memref.readAt_unit_zero (Elt F) main_v4 (funext fun _ => Nat.zero_mul _) _ f
theorem blk2_7 (f : S6x16384.Idx → Elt F .f32) : ((cfg2.win 7).blk t2_0).view.read (Elt F) f = f :=
  Memref.readAt_unit_zero (Elt F) main_v5 (funext fun _ => Nat.zero_mul _) _ f

theorem blk3_0 (f : S32x128.Idx → Elt F .f32) : ((cfg3.win 0).blk t3_0).view.read (Elt F) f = f :=
  Memref.readAt_unit_zero (Elt F) main_v1 (funext fun _ => Nat.zero_mul _) _ f
theorem blk3_1 (f : S1x128.Idx → Elt F .f32) : ((cfg3.win 1).blk t3_0).view.read (Elt F) f = f :=
  Memref.readAt_unit_zero (Elt F) main_v6 (funext fun _ => Nat.zero_mul _) _ f
theorem blk3_2 (f : S100x128.Idx → Elt F .f32) : ((cfg3.win 2).blk t3_0).view.read (Elt F) f = f :=
  Memref.readAt_unit_zero (Elt F) main_arg3 (funext fun _ => Nat.zero_mul _) _ f
theorem blk3_3 (f : S1x100.Idx → Elt F .f32) : ((cfg3.win 3).blk t3_0).view.read (Elt F) f = f :=
  Memref.readAt_unit_zero (Elt F) main_v2 (funext fun _ => Nat.zero_mul _) _ f
theorem blk3_4 (f : S100x100.Idx → Elt F .f32) : ((cfg3.win 4).blk t3_0).view.read (Elt F) f = f :=
  Memref.readAt_unit_zero (Elt F) main_arg5 (funext fun _ => Nat.zero_mul _) _ f
theorem blk3_5 (f : S1x100.Idx → Elt F .f32) : ((cfg3.win 5).blk t3_0).view.read (Elt F) f = f :=
  Memref.readAt_unit_zero (Elt F) main_v3 (funext fun _ => Nat.zero_mul _) _ f
theorem blk3_6 (f : S6x100.Idx → Elt F .f32) : ((cfg3.win 6).blk t3_0).view.read (Elt F) f = f :=
  Memref.readAt_unit_zero (Elt F) main_arg7 (funext fun _ => Nat.zero_mul _) _ f
theorem blk3_7 (f : S1x6.Idx → Elt F .f32) : ((cfg3.win 7).blk t3_0).view.read (Elt F) f = f :=
  Memref.readAt_unit_zero (Elt F) main_v7 (funext fun _ => Nat.zero_mul _) _ f
theorem blk3_8 (f : S1x6.Idx → Elt F .f32) : ((cfg3.win 8).blk t3_0).view.read (Elt F) f = f :=
  Memref.readAt_unit_zero (Elt F) main_v8 (funext fun _ => Nat.zero_mul _) _ f

section

variable (V : (c : Dev nD) → (b : Ref sig .tc) → Buf (Elt F) ((c : Thread nD τ).loc b))

-- the waits the TensorCore has recorded before the calls are among these
variable (B : Set (SemLoc sig × HIx 2))

/-! ## The first call -/

/-- What the scoped buffers of the other call hold: anything. -/
abbrev Φ2 (c : Dev nD) : sProp 𝕄 := Pipeline.scopedRest (Ix := HIx 2) (Name := ℕ) (U := UU) (Lvl := ℕ) (Val := Elt F) spec2 c

/-- What the call leaves in its result. -/
abbrev out2 (c : Dev nD) : S6x16384.Idx → Elt F .f32 :=
  k2_pay1 (F := F) (V c main_v0) (V c main_arg3) (V c main_v2) (V c main_arg5) (V c main_v3) (V c main_arg7) (V c main_v4)

/-- The call's proof data. -/
def dat2 (c : Dev nD) : Dat τ (Elt F) (HIx 2) ℕ UU ℕ cfg2 c where
  A w := V c (Pipeline.arrRef spec2 w)
  after w _ := match w with
    | ⟨0, _⟩ => V c main_v0
    | ⟨1, _⟩ => V c main_arg3
    | ⟨2, _⟩ => V c main_v2
    | ⟨3, _⟩ => V c main_arg5
    | ⟨4, _⟩ => V c main_v3
    | ⟨5, _⟩ => V c main_arg7
    | ⟨6, _⟩ => V c main_v4
    | ⟨7, _⟩ => out2 V c
  Φ _ := Φ2 c
  q _ := fullShare
  owed _ := 0
  recorded _ := B

theorem before2_0 (c : Dev nD) (d : S16384x128.Idx → Elt F .f32) : (dat2 V B c).before 0 t2_0 d = V c main_v0 := by
  unfold Dat.before; rw [if_pos (fetch2_0 _)]; exact blk2_0 (V c main_v0)
theorem before2_1 (c : Dev nD) (d : S100x128.Idx → Elt F .f32) : (dat2 V B c).before 1 t2_0 d = V c main_arg3 := by
  unfold Dat.before; rw [if_pos (fetch2_1 _)]; exact blk2_1 (V c main_arg3)
theorem before2_2 (c : Dev nD) (d : S1x100.Idx → Elt F .f32) : (dat2 V B c).before 2 t2_0 d = V c main_v2 := by
  unfold Dat.before; rw [if_pos (fetch2_2 _)]; exact blk2_2 (V c main_v2)
theorem before2_3 (c : Dev nD) (d : S100x100.Idx → Elt F .f32) : (dat2 V B c).before 3 t2_0 d = V c main_arg5 := by
  unfold Dat.before; rw [if_pos (fetch2_3 _)]; exact blk2_3 (V c main_arg5)
theorem before2_4 (c : Dev nD) (d : S1x100.Idx → Elt F .f32) : (dat2 V B c).before 4 t2_0 d = V c main_v3 := by
  unfold Dat.before; rw [if_pos (fetch2_4 _)]; exact blk2_4 (V c main_v3)
theorem before2_5 (c : Dev nD) (d : S6x100.Idx → Elt F .f32) : (dat2 V B c).before 5 t2_0 d = V c main_arg7 := by
  unfold Dat.before; rw [if_pos (fetch2_5 _)]; exact blk2_5 (V c main_arg7)
theorem before2_6 (c : Dev nD) (d : S6x1.Idx → Elt F .f32) : (dat2 V B c).before 6 t2_0 d = V c main_v4 := by
  unfold Dat.before; rw [if_pos (fetch2_6 _)]; exact blk2_6 (V c main_v4)

theorem obligation2 (c : Dev nD) : BodyObligation (dat2 V B c) (defs₀ (F := F)) 𝒱₀ (none : HIx 2) Set.univ := fun t => by
  obtain rfl := fin_N2 t
  rw [bigSep_W2, bigSep_W2]
  simp only [owns_whole_eq]
  rw [show (dat2 V B c).Φ t2_0.castSucc = Φ2 c from rfl, show (dat2 V B c).Φ t2_0.succ = Φ2 c from rfl,
    show (dat2 V B c).owesAt (none : HIx 2) t2_0.succ = (dat2 V B c).owesAt (none : HIx 2) t2_0.castSucc from rfl]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  rw [before2_0] at h0
  rw [before2_1] at h1
  rw [before2_2] at h2
  rw [before2_3] at h3
  rw [before2_4] at h4
  rw [before2_5] at h5
  rw [before2_6] at h6
  subst h0
  subst h1
  subst h2
  subst h3
  subst h4
  subst h5
  subst h6
  iapply (mlp_body c _ _ _ _ _ _ _ f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists _; isplitr; swap; (· iexact H0); ipureintro; dsimp only [dat2]
  isplitl [H1]; · iexists _; isplitr; swap; (· iexact H1); ipureintro; dsimp only [dat2]
  isplitl [H2]; · iexists _; isplitr; swap; (· iexact H2); ipureintro; dsimp only [dat2]
  isplitl [H3]; · iexists _; isplitr; swap; (· iexact H3); ipureintro; dsimp only [dat2]
  isplitl [H4]; · iexists _; isplitr; swap; (· iexact H4); ipureintro; dsimp only [dat2]
  isplitl [H5]; · iexists _; isplitr; swap; (· iexact H5); ipureintro; dsimp only [dat2]
  isplitl [H6]; · iexists _; isplitr; swap; (· iexact H6); ipureintro; dsimp only [dat2]
  iexists _; isplitr; swap; (· iexact H7); ipureintro; dsimp only [dat2]

theorem final2 (c : Dev nD) : (dat2 V B c).arrAt 7 cfg2.N = out2 V c :=
  (dat2 V B c).arrAt_eq_of_cover 7 (out2 V c)
    (fun t _ => by obtain rfl := fin_N2 t; exact (blk2_7 (out2 V c)).symm)
    (fun i => ⟨t2_0, flush2_7 _, by
      have h : ((cfg2.win 7).blk t2_0).view.set = Finset.univ := by
        show ((View.whole main_v5).slice (win2_7.rect t2_0)).set = _
        rw [View.set_slice_whole]
        exact Finset.eq_univ_iff_forall.2 fun x => (Rect.mem_set_unit).2 fun a => by
          show 0 * _ ≤ _ ∧ _ < 0 * _ + _
          rw [Nat.zero_mul, Nat.zero_add]; exact ⟨Nat.zero_le _, (x a).isLt⟩
      rw [h]; exact Finset.mem_univ _⟩)

/-! ## The second call -/

/-- What the scoped buffers of the other call hold: anything. -/
abbrev Φ3 (c : Dev nD) : sProp 𝕄 := Pipeline.scopedRest (Ix := HIx 2) (Name := ℕ) (U := UU) (Lvl := ℕ) (Val := Elt F) spec3 c

/-- What the call leaves in its result. -/
abbrev out3 (c : Dev nD) : S1x6.Idx → Elt F .f32 :=
  k3_pay1 (F := F) (V c main_v1) (V c main_v6) (V c main_arg3) (V c main_v2) (V c main_arg5) (V c main_v3) (V c main_arg7) (V c main_v7)

/-- The call's proof data. -/
def dat3 (c : Dev nD) : Dat τ (Elt F) (HIx 2) ℕ UU ℕ cfg3 c where
  A w := V c (Pipeline.arrRef spec3 w)
  after w _ := match w with
    | ⟨0, _⟩ => V c main_v1
    | ⟨1, _⟩ => V c main_v6
    | ⟨2, _⟩ => V c main_arg3
    | ⟨3, _⟩ => V c main_v2
    | ⟨4, _⟩ => V c main_arg5
    | ⟨5, _⟩ => V c main_v3
    | ⟨6, _⟩ => V c main_arg7
    | ⟨7, _⟩ => V c main_v7
    | ⟨8, _⟩ => out3 V c
  Φ _ := Φ3 c
  q _ := fullShare
  owed _ := 0
  recorded _ := B

theorem before3_0 (c : Dev nD) (d : S32x128.Idx → Elt F .f32) : (dat3 V B c).before 0 t3_0 d = V c main_v1 := by
  unfold Dat.before; rw [if_pos (fetch3_0 _)]; exact blk3_0 (V c main_v1)
theorem before3_1 (c : Dev nD) (d : S1x128.Idx → Elt F .f32) : (dat3 V B c).before 1 t3_0 d = V c main_v6 := by
  unfold Dat.before; rw [if_pos (fetch3_1 _)]; exact blk3_1 (V c main_v6)
theorem before3_2 (c : Dev nD) (d : S100x128.Idx → Elt F .f32) : (dat3 V B c).before 2 t3_0 d = V c main_arg3 := by
  unfold Dat.before; rw [if_pos (fetch3_2 _)]; exact blk3_2 (V c main_arg3)
theorem before3_3 (c : Dev nD) (d : S1x100.Idx → Elt F .f32) : (dat3 V B c).before 3 t3_0 d = V c main_v2 := by
  unfold Dat.before; rw [if_pos (fetch3_3 _)]; exact blk3_3 (V c main_v2)
theorem before3_4 (c : Dev nD) (d : S100x100.Idx → Elt F .f32) : (dat3 V B c).before 4 t3_0 d = V c main_arg5 := by
  unfold Dat.before; rw [if_pos (fetch3_4 _)]; exact blk3_4 (V c main_arg5)
theorem before3_5 (c : Dev nD) (d : S1x100.Idx → Elt F .f32) : (dat3 V B c).before 5 t3_0 d = V c main_v3 := by
  unfold Dat.before; rw [if_pos (fetch3_5 _)]; exact blk3_5 (V c main_v3)
theorem before3_6 (c : Dev nD) (d : S6x100.Idx → Elt F .f32) : (dat3 V B c).before 6 t3_0 d = V c main_arg7 := by
  unfold Dat.before; rw [if_pos (fetch3_6 _)]; exact blk3_6 (V c main_arg7)
theorem before3_7 (c : Dev nD) (d : S1x6.Idx → Elt F .f32) : (dat3 V B c).before 7 t3_0 d = V c main_v7 := by
  unfold Dat.before; rw [if_pos (fetch3_7 _)]; exact blk3_7 (V c main_v7)

theorem obligation3 (c : Dev nD) : BodyObligation (dat3 V B c) (defs₀ (F := F)) 𝒱₀ (none : HIx 2) Set.univ := fun t => by
  obtain rfl := fin_N3 t
  rw [bigSep_W3, bigSep_W3]
  simp only [owns_whole_eq]
  rw [show (dat3 V B c).Φ t3_0.castSucc = Φ3 c from rfl, show (dat3 V B c).Φ t3_0.succ = Φ3 c from rfl,
    show (dat3 V B c).owesAt (none : HIx 2) t3_0.succ = (dat3 V B c).owesAt (none : HIx 2) t3_0.castSucc from rfl]
  iintro ⟨HΦ, Howes, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
  rw [before3_0] at h0
  rw [before3_1] at h1
  rw [before3_2] at h2
  rw [before3_3] at h3
  rw [before3_4] at h4
  rw [before3_5] at h5
  rw [before3_6] at h6
  rw [before3_7] at h7
  subst h0
  subst h1
  subst h2
  subst h3
  subst h4
  subst h5
  subst h6
  subst h7
  iapply (fix_body c _ _ _ _ _ _ _ _ f8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexists _; isplitr; swap; (· iexact H0); ipureintro; dsimp only [dat3]
  isplitl [H1]; · iexists _; isplitr; swap; (· iexact H1); ipureintro; dsimp only [dat3]
  isplitl [H2]; · iexists _; isplitr; swap; (· iexact H2); ipureintro; dsimp only [dat3]
  isplitl [H3]; · iexists _; isplitr; swap; (· iexact H3); ipureintro; dsimp only [dat3]
  isplitl [H4]; · iexists _; isplitr; swap; (· iexact H4); ipureintro; dsimp only [dat3]
  isplitl [H5]; · iexists _; isplitr; swap; (· iexact H5); ipureintro; dsimp only [dat3]
  isplitl [H6]; · iexists _; isplitr; swap; (· iexact H6); ipureintro; dsimp only [dat3]
  isplitl [H7]; · iexists _; isplitr; swap; (· iexact H7); ipureintro; dsimp only [dat3]
  iexists _; isplitr; swap; (· iexact H8); ipureintro; dsimp only [dat3]

theorem final3 (c : Dev nD) : (dat3 V B c).arrAt 8 cfg3.N = out3 V c :=
  (dat3 V B c).arrAt_eq_of_cover 8 (out3 V c)
    (fun t _ => by obtain rfl := fin_N3 t; exact (blk3_8 (out3 V c)).symm)
    (fun i => ⟨t3_0, flush3_8 _, by
      have h : ((cfg3.win 8).blk t3_0).view.set = Finset.univ := by
        show ((View.whole main_v8).slice (win3_8.rect t3_0)).set = _
        rw [View.set_slice_whole]
        exact Finset.eq_univ_iff_forall.2 fun x => (Rect.mem_set_unit).2 fun a => by
          show 0 * _ ≤ _ ∧ _ < 0 * _ + _
          rw [Nat.zero_mul, Nat.zero_add]; exact ⟨Nat.zero_le _, (x a).isLt⟩
      rw [h]; exact Finset.mem_univ _⟩)

end

end Cert.Proof.Bag

end
-- ==== Proof.Segs.lean ====
/-
  The TensorCore's part of the program after the two SparseCore calls, as one list of segments.
-/
module

public import proofs.«01_k».proof.Proof.Dense

@[expose] public section

noncomputable section

namespace Cert.Proof.Bag

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat)

variable {F : FTy → Type} [FloatOps F] [Named F]

local notation "𝕄" => MT nD τ sig (HIx 2) (Elt F) ℕ UU ℕ

/-! ## The host operations -/

abbrev opB1 : HloOp τ sig (Elt F) := StableHlo.reshape main_arg4 main_v2 (rfl : (.f32 : EltTy) = .f32) shapeCasts_S100_S1x100
abbrev opB2 : HloOp τ sig (Elt F) := StableHlo.reshape main_arg6 main_v3 (rfl : (.f32 : EltTy) = .f32) shapeCasts_S100_S1x100
abbrev opB3 : HloOp τ sig (Elt F) := StableHlo.reshape main_arg8 main_v4 (rfl : (.f32 : EltTy) = .f32) shapeCasts_S6_S6x1
abbrev opRow : HloOp τ sig (Elt F) :=
  StableHlo.unary main_v0 main_v6 ((extractStridedSlice S1x128 ![16383, 0] · slices_S16384x128_S1x128_16383_0) : (⟨S16384x128, .f32⟩ : BufTy).Contents (Elt F) → (⟨S1x128, .f32⟩ : BufTy).Contents (Elt F))
abbrev opB4 : HloOp τ sig (Elt F) := StableHlo.reshape main_arg8 main_v7 (rfl : (.f32 : EltTy) = .f32) shapeCasts_S6_S1x6
abbrev opT : HloOp τ sig (Elt F) :=
  StableHlo.unary main_v5 main_v9 ((transpose S16384x6 [1, 0] · transposes_S6x16384_S16384x6_1_0) : (⟨S6x16384, .f32⟩ : BufTy).Contents (Elt F) → (⟨S16384x6, .f32⟩ : BufTy).Contents (Elt F))
abbrev opI : HloOp τ sig (Elt F) := StableHlo.nullary main_c (constantI S_ 32 16383#32)
abbrev opJ : HloOp τ sig (Elt F) := StableHlo.nullary main_c_0 (constantI S_ 32 0#32)
abbrev opPut : HloOp τ sig (Elt F) :=
  StableHlo.binaryIndexed main_v9 main_v8 ![main_c, main_c_0] ⟨S_, .i32⟩ main_v10 ((fun x u i => Host.dynamicUpdateSlice x u (fun k => (i k (Shape.Idx.first h_S_)).toInt) updateFits_S16384x6_S1x6) : (⟨S16384x6, .f32⟩ : BufTy).Contents (Elt F) → (⟨S1x6, .f32⟩ : BufTy).Contents (Elt F) → (Fin 2 → (⟨S_, .i32⟩ : BufTy).Contents (Elt F)) → (⟨S16384x6, .f32⟩ : BufTy).Contents (Elt F))

/-- The three host stretches. -/
abbrev opsA : List (HloOp τ sig (Elt F)) := [opB1, opB2, opB3]
abbrev opsB : List (HloOp τ sig (Elt F)) := [opRow, opB4]
abbrev opsC : List (HloOp τ sig (Elt F)) := [opT, opI, opJ, opPut]

/-! ## What the TensorCore's buffers hold -/

/-- A valuation as contents of the TensorCore's buffers. -/
abbrev ofVal (W : Dev nD → Valuation τ sig (Elt F)) : (c : Dev nD) → (b : Ref sig .tc) → Buf (Elt F) ((c : Thread nD τ).loc b) := fun c b => W c b

section

variable (W : Dev nD → Valuation τ sig (Elt F))

/-- Before the first TensorCore call, after it, before the second, after it, and at the end. -/
def val1 (c : Dev nD) : Valuation τ sig (Elt F) := StableHlo.after opsA (W c)
def val2 (c : Dev nD) : Valuation τ sig (Elt F) := Function.update (val1 W c) (Proc.devRef .tc main_v5) (out2 (ofVal (val1 W)) c)
def val3 (c : Dev nD) : Valuation τ sig (Elt F) := StableHlo.after opsB (val2 W c)
def val4 (c : Dev nD) : Valuation τ sig (Elt F) := Function.update (val3 W c) (Proc.devRef .tc main_v8) (out3 (ofVal (val3 W)) c)
def val5 (c : Dev nD) : Valuation τ sig (Elt F) := StableHlo.after opsC (val4 W c)

theorem val2_out (c : Dev nD) : ofVal (val2 W) c main_v5 = out2 (ofVal (val1 W)) c := by
  show val2 W c (Proc.devRef .tc main_v5) = _
  unfold val2; exact Function.update_self _ _ _
theorem val2_ne (c : Dev nD) (b : Ref sig .tc) (h : b ≠ main_v5) : ofVal (val2 W) c b = ofVal (val1 W) c b := by
  show val2 W c (Proc.devRef .tc b) = _
  unfold val2; exact Function.update_of_ne (fun e => h (Proc.devRef_injective _ e)) _ _
theorem val4_out (c : Dev nD) : ofVal (val4 W) c main_v8 = out3 (ofVal (val3 W)) c := by
  show val4 W c (Proc.devRef .tc main_v8) = _
  unfold val4; exact Function.update_self _ _ _
theorem val4_ne (c : Dev nD) (b : Ref sig .tc) (h : b ≠ main_v8) : ofVal (val4 W) c b = ofVal (val3 W) c b := by
  show val4 W c (Proc.devRef .tc b) = _
  unfold val4; exact Function.update_of_ne (fun e => h (Proc.devRef_injective _ e)) _ _

variable (B : Set (SemLoc sig × HIx 2))

/-- The TensorCore owes nothing, and its waits are among `B`. -/
def Waited (c : Dev nD) : sProp 𝕄 := iprop(∃ U, ⌜∀ p ∈ U, p ∈ B⌝ ∗ owes (c : Thread nD τ) (0 : CellTallies nD τ sig (HIx 2)) U)

abbrev adm : (p : Fin 2) → (pcfgs (F := F) p).Adm := fun p => (cfgs p).toPCfg_adm

def pdats : (p : Fin 2) → (c : Dev nD) → Dat τ (Elt F) (HIx 2) ℕ UU ℕ (Pipeline.pin (pcfgs (F := F)) adm p) c
  | ⟨0, _⟩ => fun c => dat2 (ofVal (val1 W)) B c
  | ⟨1, _⟩ => fun c => dat3 (ofVal (val3 W)) B c

set_option backward.isDefEq.respectTransparency.types false in
/-- The TensorCore call over everything the TensorCore holds. -/
def regA (hB : ∀ p : SemLoc sig × HIx 2, p.2 = none → p ∈ B) :
    Pipeline.RegionSeg (pcfgs (F := F)) adm (pdats W B) (none : HIx 2) defs₀ 𝒱₀ (K (F := F)).L (K (F := F)).lev 0 where
  win := launch2.win.to₀
  block_pos := launch2.block_pos
  stage_whole := launch2.stage_whole
  K := PEmpty
  osem k := k.elim
  ho := Pipeline.OwnSemFacts.none _
  hbody c := (obligation2 (ofVal (val1 W)) B c).loose
  hwaits := Pipeline.hwaits_of_owed_zero _ _ _ _ (K (F := F)).L (K (F := F)).lev 0 fun _ _ => rfl
  pre c := iprop(unscopedBufs c (ofVal (val1 W) c) ∗ Waited B c)
  post c := iprop(unscopedBufs c (ofVal (val2 W) c) ∗ Waited B c)
  X _ := BI.emp
  Y _ := BI.emp
  Z c := Pipeline.unscopedRest (Ix := HIx 2) (Name := ℕ) (U := UU) (Lvl := ℕ) spec2 c (ofVal (val1 W) c)
  hentry c := by
    rw [Pipeline.ownSems0_none]
    have hsplit := Pipeline.arrays_of_unscopedBufs (p := 0) (pcfgs (F := F)) adm (pdats W B) launch2.win launch2.arr_whole c
      ((pdats W B 0 c).share_full fun _ => rfl) (ofVal (val1 W) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Waited
      icases HO with ⟨%U, %hU, HO⟩; iexists U; isplitr; · ipureintro; exact fun p hp => Or.inl (hU p hp)
      iexact HO
    isplitr; · iempintro
    iexact Hrest
  hin c := by
    rw [show (pdats W B 0 c).Φ 0 = Φ2 c from rfl]
    iintro ⟨-, -, Hr⟩; iexact Hr
  hout c := by
    rw [Pipeline.ownSems0_none, show (pdats W B 0 c).Φ (Fin.last _) = Φ2 c from rfl]
    iintro Hr
    isplitr; · iempintro
    isplitr; · iempintro
    iexact Hr
  hexit c := by
    have hjoin := Pipeline.unscopedBufs_of_arrays (p := 0) (pcfgs (F := F)) adm (Ix := HIx 2) (Name := ℕ) (U := UU) (Lvl := ℕ) launch2.win launch2.arr_whole c
      (pdats W B) ((pdats W B 0 c).share_full fun _ => rfl) (ofVal (val1 W) c) (ofVal (val2 W) c) ((pdats W B 0 c).arrAt · cfg2.N)
      (fun w => by
        fin_cases w
        · exact ((pdats W B 0 c).arrAt_in 0 rfl _).trans (val2_ne W c main_v0 (by decide)).symm
        · exact ((pdats W B 0 c).arrAt_in 1 rfl _).trans (val2_ne W c main_arg3 (by decide)).symm
        · exact ((pdats W B 0 c).arrAt_in 2 rfl _).trans (val2_ne W c main_v2 (by decide)).symm
        · exact ((pdats W B 0 c).arrAt_in 3 rfl _).trans (val2_ne W c main_arg5 (by decide)).symm
        · exact ((pdats W B 0 c).arrAt_in 4 rfl _).trans (val2_ne W c main_v3 (by decide)).symm
        · exact ((pdats W B 0 c).arrAt_in 5 rfl _).trans (val2_ne W c main_arg7 (by decide)).symm
        · exact ((pdats W B 0 c).arrAt_in 6 rfl _).trans (val2_ne W c main_v4 (by decide)).symm
        · exact (final2 (ofVal (val1 W)) B c).trans (val2_out W c).symm)
      (fun b hb => val2_ne W c b fun h => hb (h ▸ Finset.mem_image.mpr ⟨7, Finset.mem_univ _, rfl⟩))
    iintro ⟨Ha, HO, -, Hrest⟩
    imodintro
    isplitl [Ha Hrest]
    · iapply hjoin; isplitl [Ha] <;> iassumption
    unfold Pipeline.Dat.owesAt Pipeline.owesWithin Waited
    icases HO with ⟨%U, %hU, HO⟩; iexists U
    isplitr
    · ipureintro
      intro p hp
      rcases hU hp with h | h
      · exact h
      · obtain ⟨w, s, e⟩ := h
        exact hB p (e ▸ rfl)
    iexact HO

set_option backward.isDefEq.respectTransparency.types false in
/-- The TensorCore call over everything the TensorCore holds. -/
def regB (hB : ∀ p : SemLoc sig × HIx 2, p.2 = none → p ∈ B) :
    Pipeline.RegionSeg (pcfgs (F := F)) adm (pdats W B) (none : HIx 2) defs₀ 𝒱₀ (K (F := F)).L (K (F := F)).lev 1 where
  win := launch3.win.to₀
  block_pos := launch3.block_pos
  stage_whole := launch3.stage_whole
  K := PEmpty
  osem k := k.elim
  ho := Pipeline.OwnSemFacts.none _
  hbody c := (obligation3 (ofVal (val3 W)) B c).loose
  hwaits := Pipeline.hwaits_of_owed_zero _ _ _ _ (K (F := F)).L (K (F := F)).lev 1 fun _ _ => rfl
  pre c := iprop(unscopedBufs c (ofVal (val3 W) c) ∗ Waited B c)
  post c := iprop(unscopedBufs c (ofVal (val4 W) c) ∗ Waited B c)
  X _ := BI.emp
  Y _ := BI.emp
  Z c := Pipeline.unscopedRest (Ix := HIx 2) (Name := ℕ) (U := UU) (Lvl := ℕ) spec3 c (ofVal (val3 W) c)
  hentry c := by
    rw [Pipeline.ownSems0_none]
    have hsplit := Pipeline.arrays_of_unscopedBufs (p := 1) (pcfgs (F := F)) adm (pdats W B) launch3.win launch3.arr_whole c
      ((pdats W B 1 c).share_full fun _ => rfl) (ofVal (val3 W) c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Waited
      icases HO with ⟨%U, %hU, HO⟩; iexists U; isplitr; · ipureintro; exact fun p hp => Or.inl (hU p hp)
      iexact HO
    isplitr; · iempintro
    iexact Hrest
  hin c := by
    rw [show (pdats W B 1 c).Φ 0 = Φ3 c from rfl]
    iintro ⟨-, -, Hr⟩; iexact Hr
  hout c := by
    rw [Pipeline.ownSems0_none, show (pdats W B 1 c).Φ (Fin.last _) = Φ3 c from rfl]
    iintro Hr
    isplitr; · iempintro
    isplitr; · iempintro
    iexact Hr
  hexit c := by
    have hjoin := Pipeline.unscopedBufs_of_arrays (p := 1) (pcfgs (F := F)) adm (Ix := HIx 2) (Name := ℕ) (U := UU) (Lvl := ℕ) launch3.win launch3.arr_whole c
      (pdats W B) ((pdats W B 1 c).share_full fun _ => rfl) (ofVal (val3 W) c) (ofVal (val4 W) c) ((pdats W B 1 c).arrAt · cfg3.N)
      (fun w => by
        fin_cases w
        · exact ((pdats W B 1 c).arrAt_in 0 rfl _).trans (val4_ne W c main_v1 (by decide)).symm
        · exact ((pdats W B 1 c).arrAt_in 1 rfl _).trans (val4_ne W c main_v6 (by decide)).symm
        · exact ((pdats W B 1 c).arrAt_in 2 rfl _).trans (val4_ne W c main_arg3 (by decide)).symm
        · exact ((pdats W B 1 c).arrAt_in 3 rfl _).trans (val4_ne W c main_v2 (by decide)).symm
        · exact ((pdats W B 1 c).arrAt_in 4 rfl _).trans (val4_ne W c main_arg5 (by decide)).symm
        · exact ((pdats W B 1 c).arrAt_in 5 rfl _).trans (val4_ne W c main_v3 (by decide)).symm
        · exact ((pdats W B 1 c).arrAt_in 6 rfl _).trans (val4_ne W c main_arg7 (by decide)).symm
        · exact ((pdats W B 1 c).arrAt_in 7 rfl _).trans (val4_ne W c main_v7 (by decide)).symm
        · exact (final3 (ofVal (val3 W)) B c).trans (val4_out W c).symm)
      (fun b hb => val4_ne W c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin Waited
    icases HO with ⟨%U, %hU, HO⟩; iexists U
    isplitr
    · ipureintro
      intro p hp
      rcases hU hp with h | h
      · exact h
      · obtain ⟨w, s, e⟩ := h
        exact hB p (e ▸ rfl)
    iexact HO

/-! ## The list of segments -/

/-- The buffers the TensorCore holds between calls. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem opsA_sub : ∀ op ∈ (opsA : List (HloOp τ sig (Elt F))), op.bufs ⊆ ucRefs := fun op h => by
  simp only [List.mem_cons, List.not_mem_nil, or_false] at h
  rcases h with rfl | rfl | rfl
  · show ({Proc.devRef .tc main_arg4, Proc.devRef .tc main_v2} : Finset (DevRef τ sig)) ⊆ ucRefs; decide
  · show ({Proc.devRef .tc main_arg6, Proc.devRef .tc main_v3} : Finset (DevRef τ sig)) ⊆ ucRefs; decide
  · show ({Proc.devRef .tc main_arg8, Proc.devRef .tc main_v4} : Finset (DevRef τ sig)) ⊆ ucRefs; decide
theorem opsB_sub : ∀ op ∈ (opsB : List (HloOp τ sig (Elt F))), op.bufs ⊆ ucRefs := fun op h => by
  simp only [List.mem_cons, List.not_mem_nil, or_false] at h
  rcases h with rfl | rfl
  · show ({Proc.devRef .tc main_v0, Proc.devRef .tc main_v6} : Finset (DevRef τ sig)) ⊆ ucRefs; decide
  · show ({Proc.devRef .tc main_arg8, Proc.devRef .tc main_v7} : Finset (DevRef τ sig)) ⊆ ucRefs; decide
theorem opsC_sub : ∀ op ∈ (opsC : List (HloOp τ sig (Elt F))), op.bufs ⊆ ucRefs := fun op h => by
  simp only [List.mem_cons, List.not_mem_nil, or_false] at h
  rcases h with rfl | rfl | rfl | rfl
  · show ({Proc.devRef .tc main_v5, Proc.devRef .tc main_v9} : Finset (DevRef τ sig)) ⊆ ucRefs; decide
  · show ({Proc.devRef .tc main_c} : Finset (DevRef τ sig)) ⊆ ucRefs; decide
  · show ({Proc.devRef .tc main_c_0} : Finset (DevRef τ sig)) ⊆ ucRefs; decide
  · show insert (Proc.devRef .tc main_v9) (insert (Proc.devRef .tc main_v8) (insert (Proc.devRef .tc main_v10) (Finset.univ.image fun k : Fin 2 => Proc.devRef .tc ((![main_c, main_c_0] : Fin 2 → Ref sig .tc) k)))) ⊆ (ucRefs : Finset (DevRef τ sig))
    decide

theorem opsA_fresh : ∀ op ∈ (opsA : List (HloOp τ sig (Elt F))), op.fresh = ∅ := fun op h => by
  simp only [List.mem_cons, List.not_mem_nil, or_false] at h
  rcases h with rfl | rfl | rfl <;> rfl
theorem opsB_fresh : ∀ op ∈ (opsB : List (HloOp τ sig (Elt F))), op.fresh = ∅ := fun op h => by
  simp only [List.mem_cons, List.not_mem_nil, or_false] at h
  rcases h with rfl | rfl <;> rfl
theorem opsC_fresh : ∀ op ∈ (opsC : List (HloOp τ sig (Elt F))), op.fresh = ∅ := fun op h => by
  simp only [List.mem_cons, List.not_mem_nil, or_false] at h
  rcases h with rfl | rfl | rfl | rfl <;> rfl

/-- The five segments. -/
def segs (hB : ∀ p : SemLoc sig × HIx 2, p.2 = none → p ∈ B) :
    List (Pipeline.Seg (pcfgs (F := F)) adm (pdats W B) (none : HIx 2) defs₀ 𝒱₀ (K (F := F)).L (K (F := F)).lev) :=
  [ .host (Pipeline.HostSeg.ofOps _ _ _ _ _ ucRefs opsA opsA_sub opsA_fresh W (Waited B)),
    .region (regA W B hB),
    .host (Pipeline.HostSeg.ofOps _ _ _ _ _ ucRefs opsB opsB_sub opsB_fresh (val2 W) (Waited B)),
    .region (regB W B hB),
    .host (Pipeline.HostSeg.ofOps _ _ _ _ _ ucRefs opsC opsC_sub opsC_fresh (val4 W) (Waited B)) ]

/-- The program is the two SparseCore calls, then the segments. -/
theorem main_eq (d : Dev nD) (hB : ∀ p : SemLoc sig × HIx 2, p.2 = none → p ∈ B) :
    main (F := F) d = ((K (F := F)).run d 0 >>= fun _ => (K (F := F)).run d 1 >>= fun _ => SparseCore.liftProg (Pipeline.Seg.run (segs W B hB))) := rfl

/-- The segments' run. -/
theorem wp_rest [∀ e, Nonempty (Elt F e)] (d : Dev nD) (hB : ∀ p : SemLoc sig × HIx 2, p.2 = none → p ∈ B) (Q : PUnit → sProp 𝕄) :
    iprop((iprop(boundary (d : Thread nD τ) ∗ StableHlo.held (d : Thread nD τ) ucRefs (val5 W d) ∗ Waited B d) -∗ Q ⟨⟩)
        ∗ boundary (d : Thread nD τ) ∗ (StableHlo.held (d : Thread nD τ) ucRefs (W d) ∗ Waited B d) ∗ levAts (K (F := F)).L (K (F := F)).lev
        ∗ Pipeline.ghostOn (pcfgs (F := F)) adm EP Finset.univ d)
      ⊢ wp frame (wpE ((K (F := F)).defs (D (F := F))) 𝒱 (d : Thread nD τ) none) Set.univ
          (SparseCore.liftProg (Pipeline.Seg.run (segs W B hB))) Q := by
  refine BI.Entails.trans ?_ ((K (F := F)).wp_liftProg (D (F := F)) 𝒱 (d : Thread nD τ) Set.univ none _ Q)
  refine Pipeline.wp_segs (pcfgs (F := F)) adm (pdats W B) (none : HIx 2) cellOf_inj EP defs₀ 𝒱₀ (K (F := F)).L (K (F := F)).lev d (segs W B hB) Finset.univ
    (fun c => iprop(StableHlo.held (c : Thread nD τ) ucRefs (W c) ∗ Waited B c)) (fun c => iprop(StableHlo.held (c : Thread nD τ) ucRefs (val5 W c) ∗ Waited B c))
    ?_ (fun _ _ => Finset.mem_univ _) ?_
  · show ([0, 1] : List (Fin 2)).Nodup
    decide
  · have h (V : Dev nD → Valuation τ sig (Elt F)) (c : Dev nD) :
        (iprop(unscopedBufs c (ofVal V c) ∗ Waited B c) : sProp 𝕄) = iprop(StableHlo.held (c : Thread nD τ) ucRefs (V c) ∗ Waited B c) := by
      rw [← unscopedBufs_held]
    refine ⟨fun c => .rfl, fun c => Entails.of_eq (h (val1 W) c).symm, fun c => Entails.of_eq (h (val2 W) c),
      fun c => Entails.of_eq (h (val3 W) c).symm, fun c => Entails.of_eq (h (val4 W) c), fun c => .rfl⟩

end

end Cert.Proof.Bag

end
-- ==== Proof.Launch.lean ====
/-
  The run of the whole program: the launch's ghost state, the program on the TensorCore, and what is read of the final
  memory.
-/
module

public import proofs.«01_k».proof.Proof.Calls
public import proofs.«01_k».proof.Proof.Segs

@[expose] public section

noncomputable section

namespace Cert.Proof.Bag

open Cert.KernelIdeal Cert.KernelIdeal.Gen

open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 2) (Elt F) ℕ UU ℕ

/-! ## The launch's ghost state -/

def uP : UR sig nD τ :=
  initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (uP (F := F), 1))

variable (m : (ℓ : Loc nD τ sig) → Buf (Elt F) ℓ) (ρ : Dev nD → PrngReg)

/-- What device `d`'s TensorCore starts with beyond the memory: its pipelines' ghost state. -/
abbrev G (d : Dev nD) : sProp 𝕄 := Pipeline.ghostOn (pcfgs (F := F)) adm EP Finset.univ d

theorem fund : (BI.own ((EP (F := F)) (uP (F := F))) : sProp 𝕄)
    ⊢ iprop(|==> ((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c))) :=
  Pipeline.fund_ghost (Pipeline.pin (pcfgs (F := F)) adm) (EP (F := F)) cellOf_inj

theorem ghost_all : (bigSep Finset.univ fun d : Dev nD => G (F := F) d)
    = (iprop((bigSep Finset.univ fun c : Dev nD => bigSep Finset.univ fun p => Pipeline.cellsGhost (Pipeline.pin (pcfgs (F := F)) adm) EP p c)
        ∗ (bigSep Finset.univ fun c : Dev nD => bigSep Finset.univ fun p => Pipeline.toksInit (Pipeline.pin (pcfgs (F := F)) adm) EP p c)) : sProp 𝕄) :=
  (bigSep_congr fun _ _ => bigSep_sep' _ _ _).trans (bigSep_sep' _ _ _)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 2 => (P m).x q thr) := by
  unfold u₀
  iintro Hu
  ihave H := (ownU_pair (initOf (K (F := F)).hsCells (K (F := F)).hsToks) ((uP (F := F), (1 : Counters)))) $$ Hu
  icases H with ⟨HH, HR⟩
  ihave H := (own_pair_emb (embR : Emb (UR sig nD τ × Counters) 𝕄) (uP (F := F)) (1 : Counters)) $$ HR
  icases H with ⟨HP, -⟩
  ihave HP' := (Entails.of_eq (show (BI.own (((Emb.inl : Emb (UR sig nD τ) (UR sig nD τ × Counters)).trans (embR : Emb (UR sig nD τ × Counters) 𝕄)) (uP (F := F))) : sProp 𝕄)
      = BI.own ((EP (F := F)) (uP (F := F))) from rfl)) $$ HP
  imod (fund (F := F)) $$ HP' with ⟨Hg, Ht⟩
  imodintro
  isplitl [HH]; · iexact HH
  isplitl [Hg Ht]
  · rw [ghost_all]
    isplitl [Hg]
    · iexact Hg
    · iexact Ht
  rw [show (bigSep Finset.univ fun thr : Thread nD τ => bigSep Finset.univ fun q : Fin 2 => (P (F := F) m).x q thr) = bigSep Finset.univ fun _ => iprop(emp) from
    bigSep_congr fun _ _ => emp_all _, emp_all]
  iempintro

/-! ## The memory between the calls -/

/-- The launch memory, and it after the two SparseCore calls. -/
def val₀ (d : Dev nD) : Valuation τ sig (Elt F) := fun b => m (d, b)
def valS (d : Dev nD) : Valuation τ sig (Elt F) :=
  Function.update (Function.update (val₀ m d) (Proc.devRef .tc main_v0) (pool m d)) (Proc.devRef .tc main_v1) (parts m d)

theorem valS_sums (d : Dev nD) : valS m d (Proc.devRef .tc main_v1) = parts m d := by
  unfold valS; exact Function.update_self _ _ _
theorem valS_pool (d : Dev nD) : valS m d (Proc.devRef .tc main_v0) = pool m d := by
  unfold valS
  exact (Function.update_of_ne (by decide) _ _).trans (Function.update_self _ _ _)
theorem valS_ne (d : Dev nD) (b : DevRef τ sig) (h0 : b ≠ Proc.devRef .tc main_v0) (h1 : b ≠ Proc.devRef .tc main_v1) : valS m d b = m (d, b) := by
  unfold valS
  exact (Function.update_of_ne h1 _ _).trans (Function.update_of_ne h0 _ _)

/-- The four buffers the SparseCore calls use, and the rest. -/
abbrev four : List (DevRef τ sig) := [Proc.devRef .tc main_arg0, Proc.devRef .tc main_arg2, Proc.devRef .tc main_v0, Proc.devRef .tc main_v1]

theorem held_four (d : Dev nD) (X : Valuation τ sig (Elt F)) :
    (StableHlo.held (d : Thread nD τ) ucRefs X : sProp 𝕄)
      = iprop((xLoc d ↦{fullShare} X (Proc.devRef .tc main_arg0)) ∗ (eLoc d ↦{fullShare} X (Proc.devRef .tc main_arg2))
          ∗ (pLoc d ↦{fullShare} X (Proc.devRef .tc main_v0)) ∗ (sLoc d ↦{fullShare} X (Proc.devRef .tc main_v1))
          ∗ StableHlo.held (d : Thread nD τ) (ucRefs \ four.toFinset) X) := by
  unfold StableHlo.held
  exact bigSep_take _ four ucRefs (by decide) (by decide)

theorem held_rest (d : Dev nD) : (StableHlo.held (d : Thread nD τ) (ucRefs \ four.toFinset) (val₀ m d) : sProp 𝕄)
    = StableHlo.held (d : Thread nD τ) (ucRefs \ four.toFinset) (valS m d) := by
  unfold StableHlo.held
  refine bigSep_congr fun b hb => ?_
  have hb' : b ∉ four.toFinset := (Finset.mem_sdiff.mp hb).2
  rw [valS_ne m d b (fun e => hb' (e ▸ by decide)) (fun e => hb' (e ▸ by decide))]
  rfl

theorem held_launch (d : Dev nD) : (unscopedBufs d (fun b => m ((SparseCore.T d).loc b)) : sProp 𝕄)
    = iprop((xLoc d ↦{fullShare} m (xLoc d)) ∗ (eLoc d ↦{fullShare} m (eLoc d)) ∗ (pLoc d ↦{fullShare} m (pLoc d)) ∗ (sLoc d ↦{fullShare} m (sLoc d))
          ∗ StableHlo.held (d : Thread nD τ) (ucRefs \ four.toFinset) (valS m d)) := by
  rw [← held_rest]
  exact (unscopedBufs_held d (val₀ m d)).trans (held_four d (val₀ m d))

theorem held_called (d : Dev nD) : (StableHlo.held (d : Thread nD τ) ucRefs (valS m d) : sProp 𝕄)
    = iprop((xLoc d ↦{fullShare} m (xLoc d)) ∗ (eLoc d ↦{fullShare} m (eLoc d)) ∗ (pLoc d ↦{fullShare} pool m d) ∗ (sLoc d ↦{fullShare} parts m d)
          ∗ StableHlo.held (d : Thread nD τ) (ucRefs \ four.toFinset) (valS m d)) := by
  rw [held_four, valS_sums, valS_pool, valS_ne m d (Proc.devRef .tc main_arg0) (by decide) (by decide),
    valS_ne m d (Proc.devRef .tc main_arg2) (by decide) (by decide)]

/-! ## @main on the TensorCore -/

theorem st0_eq (d : Dev nD) : (bigSep Finset.univ fun c : Fin ((K (F := F)).nCore 0) => (P m).st 0 d c)
    = iprop((xLoc d ↦{fullShare} m (xLoc d)) ∗ (eLoc d ↦{fullShare} m (eLoc d)) ∗ pLoc d ↦{fullShare} m (pLoc d)) :=
  cPay0_all m d (m (pLoc d))
theorem dn0_eq (d : Dev nD) : (bigSep Finset.univ fun c : Fin ((K (F := F)).nCore 0) => (P m).dn 0 d c)
    = iprop((xLoc d ↦{fullShare} m (xLoc d)) ∗ (eLoc d ↦{fullShare} m (eLoc d)) ∗ pLoc d ↦{fullShare} pool m d) :=
  cPay0_all m d (pool m d)
theorem st1_eq (d : Dev nD) : (bigSep Finset.univ fun c : Fin ((K (F := F)).nCore 1) => (P m).st 1 d c)
    = iprop((xLoc d ↦{fullShare} m (xLoc d)) ∗ (eLoc d ↦{fullShare} m (eLoc d)) ∗ sLoc d ↦{fullShare} m (sLoc d)) :=
  cPay1_all m d (m (sLoc d))
theorem dn1_eq (d : Dev nD) : (bigSep Finset.univ fun c : Fin ((K (F := F)).nCore 1) => (P m).dn 1 d c)
    = iprop((xLoc d ↦{fullShare} m (xLoc d)) ∗ (eLoc d ↦{fullShare} m (eLoc d)) ∗ sLoc d ↦{fullShare} parts m d) :=
  cPay1_all m d (parts m d)

/-- The level below which the TensorCore's waits stay, and the waits at or below it. -/
abbrev top : ℕ := 8 * (inferInstance : SparseCore.Cfg.Blocks 2 2).fst 2
def low (d : Dev nD) : Set (SemLoc sig × HIx 2) := {p | (K (F := F)).lev (SparseCore.T d, p.1) p.2 ≤ top}

theorem low_none (d : Dev nD) (p : SemLoc sig × HIx 2) (h : p.2 = none) : p ∈ low (F := F) d := by
  obtain ⟨s, i⟩ := p
  subst h
  exact Nat.zero_le _

abbrev FIN (d : Dev nD) : sProp 𝕄 := StableHlo.held (d : Thread nD τ) ucRefs (val5 (valS m) d)

theorem tc_open (d : Dev nD) : ((K (F := F)).tcSt EH d 2 : sProp 𝕄)
    ⊢ iprop(Waited (low (F := F) d) d ∗ (Waited (low (F := F) d) d -∗ (K (F := F)).tcSt EH d 2)) := by
  unfold SparseCore.Cfg.tcSt Waited
  rw [(K (F := F)).Otc_end d le_rfl]
  iintro ⟨⟨%W, %hW, HO⟩, Hrest⟩
  isplitl [HO]
  · iexists W; isplitr
    · ipureintro; exact hW
    iexact HO
  iintro ⟨%U, %hU, HO⟩
  isplitl [HO]
  · iexists U; isplitr
    · ipureintro; exact hU
    iexact HO
  iexact Hrest

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [held_launch, main_eq (valS m) (low (F := F) d) d (low_none d)]
  simp only [wp_bind]
  iintro ⟨#Hctx, Hst, ⟨Hb, ⟨Hx, He, Hp, Hs, Hrest⟩, Hts, -⟩, HG⟩
  iapply ((K (F := F)).wp_run (D (F := F)) 𝒱 (EH := EH) (P := P m) κ d 0) $$ [Hst Hx He Hp Hs Hrest Hb Hts HG]
  isplitr; · iexact Hctx
  isplitl [Hst]; · iexact Hst
  isplitl [Hx He Hp]
  · rw [st0_eq]
    isplitl [Hx]; · iexact Hx
    isplitl [He]; · iexact He
    iexact Hp
  iintro ⟨Hst, Hdn⟩
  ihave Hdn' := (Entails.of_eq (dn0_eq m d)) $$ Hdn
  icases Hdn' with ⟨Hx, He, Hp⟩
  iapply ((K (F := F)).wp_run (D (F := F)) 𝒱 (EH := EH) (P := P m) κ d 1) $$ [Hst Hx He Hp Hs Hrest Hb Hts HG]
  isplitr; · iexact Hctx
  isplitl [Hst]; · iexact Hst
  isplitl [Hx He Hs]
  · rw [st1_eq]
    isplitl [Hx]; · iexact Hx
    isplitl [He]; · iexact He
    iexact Hs
  iintro ⟨Hst, Hdn⟩
  ihave Hdn' := (Entails.of_eq (dn1_eq m d)) $$ Hdn
  icases Hdn' with ⟨Hx, He, Hs⟩
  ihave Hst := (Entails.of_eq (show ((K (F := F)).tcSt EH d ((1 : Fin 2).val + 1) : sProp 𝕄) = (K (F := F)).tcSt EH d 2 from rfl)) $$ Hst
  ihave Hto := (tc_open (F := F) d) $$ Hst
  icases Hto with ⟨HW, Hback⟩
  iapply (wp_rest (valS m) (low (F := F) d) d (low_none d)) $$ [Hback HW Hx He Hp Hs Hrest Hb Hts HG]
  isplitl [Hback Hts]
  · iintro ⟨Hb, Hh, HW⟩
    isplitl [Hback HW]
    · iapply Hback; iexact HW
    isplitl [Hh]; · iexact Hh
    isplitl [Hb] <;> iassumption
  isplitl [Hb]; · iexact Hb
  isplitl [HW Hx He Hp Hs Hrest]
  · isplitl [Hx He Hp Hs Hrest]
    · iapply (Entails.of_eq (held_called m d).symm)
      isplitl [Hx]; · iexact Hx
      isplitl [He]; · iexact He
      isplitl [Hp]; · iexact Hp
      isplitl [Hs]; · iexact Hs
      iexact Hrest
    · iexact HW
  isplitr; · iapply ((K (F := F)).ctx_levAts κ); iexact Hctx
  iexact HG

/-! ## The final memory and the run -/

/-- Every buffer the TensorCore holds between calls ends at its value. -/
def fq (d : Dev nD) (s' : Phys nD τ sig (Elt F)) : Prop := ∀ b ∈ ucRefs, s'.mem.mem (d, b) = val5 (valS m) d b

theorem hfin (d : Dev nD) (s' : Phys nD τ sig (Elt F)) : iprop(FIN m d ∗ SI s') ⊢ (⌜fq m d s'⌝ : sProp 𝕄) := by
  unfold FIN StableHlo.held fq
  iintro ⟨H, HSI⟩
  iapply (SI_pointsTo_bufs_agree (st := s') (c := d) (qs := fun _ => fullShare) (F := val5 (valS m) d) ucRefs)
  isplitl [HSI] <;> iassumption

def QC : PUnit × MemSt nD τ sig (Elt F) → Prop := fun r => (∀ d : Dev nD, ∀ b ∈ ucRefs, r.2.mem (d, b) = val5 (valS m) d b) ∧ r.2.sem = fun _ => 0

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl0 m hpre | 1 => tileObl1 m hpre)
    (fun q _ => match q with | 0 => SparseCore.Cfg.VecSplit.of_plain (vecSplit0 m) | 1 => SparseCore.Cfg.VecSplit.of_plain (vecSplit1 m))
    m ρ main (fun d => G (F := F) d) (FIN m) (u₀ (F := F)) (sep_elim_left.trans (hu₀ m)) (hmain m ρ) (fq m) (hfin m) (QC m) (fun _ h hz => ⟨h, hz⟩)

end Cert.Proof.Bag

end
-- ==== Proof.Frames.lean ====
/-
  The frames: every program runs to the end and leaves its arguments as they were.
-/
module

public import proofs.«01_k».proof.Proof.Launch
public import proofs.«01_k».proof.Proof.Gen.Kernel
public import proofs.«01_k».proof.Proof.Gen.ReferenceIdeal
public import proofs.«01_k».proof.Proof.Gen.ReferenceIdeal.Run
public import proofs.«01_k».proof.Proof.Gen.Pre_in_range
public import Idealize.ShloMosaic.PureOps.IdealRules

@[expose] public section

noncomputable section

namespace Cert.Proof.Bag

open Cert.KernelIdeal Cert.KernelIdeal.Gen

open Idealize.ShloMosaic
open Idealize.ShloMosaic.TcCoe
open Idealize.ShloMosaic.SparseCore (S V T)
open Idealize.SL.Sem

/-! ## The precondition, read -/

theorem andi_ofBool (p q : Bool) : IntOp.andi (BitVec.ofBool p) (BitVec.ofBool q) = BitVec.ofBool (p && q) := by
  cases p <;> cases q <;> decide
theorem ofBool_eq_one (p : Bool) : (BitVec.ofBool p = 1#1) ↔ p = true := by cases p <;> decide

theorem word_lt (v : BitVec 32) (e : IntOp.andi (IntOp.cmpi .sge v 0#32) (IntOp.cmpi .slt v 1000000#32) = 1#1) : v.toNat < 1000000 := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

section
variable {F : FTy → Type} [FloatOps F]
variable {x : IVec S819200 32} {o : IVec S16384 32} {e : FVec F S1000000x128 .f32} {w1 : FVec F S100x128 .f32} {b1 : FVec F S100 .f32}
  {w2 : FVec F S100x100 .f32} {b2 : FVec F S100 .f32} {w3 : FVec F S6x100 .f32} {b3 : FVec F S6 .f32}

/-- Every word of the index list names a row of the table. -/
theorem words_of_pre (h : Cert.Pre_in_range.fn (F := F) x o e w1 b1 w2 b2 w3 b3 = fun _ => 1#1) (j : S819200.Idx) : (x j : BitVec 32).toNat < 1000000 := by
  have q := congrFun h j
  simp only [Cert.Pre_in_range.fn, andi, cmpi, broadcastInDim, constantI] at q
  exact word_lt _ q
end

/-! ## The arguments at the end -/

section
variable {F : FTy → Type} [FloatOps F] [Named F]
variable (m : (ℓ : Loc nD τ sig) → Buf (Elt F) ℓ)

/-- The buffers the program writes. -/
abbrev outs : List (Ref sig .tc) := [main_v0, main_v1, main_v2, main_v3, main_v4, main_v5, main_v6, main_v7, main_v8, main_v9, main_c, main_c_0, main_v10]

theorem opsA_keep (X : Valuation τ sig (Elt F)) (b : Ref sig .tc) (hb : b ∉ outs) : StableHlo.after opsA X (Proc.devRef .tc b) = X (Proc.devRef .tc b) :=
  StableHlo.after_of_writes_sub (W := [main_v2, main_v3, main_v4]) _ X
    ⟨by show ({Proc.devRef .tc main_v2} : Finset (DevRef τ sig)) ⊆ _; decide, by show ({Proc.devRef .tc main_v3} : Finset (DevRef τ sig)) ⊆ _; decide,
      by show ({Proc.devRef .tc main_v4} : Finset (DevRef τ sig)) ⊆ _; decide⟩
    (fun h => hb (by simp only [List.mem_cons, List.not_mem_nil, or_false] at h ⊢; tauto))
theorem opsB_keep (X : Valuation τ sig (Elt F)) (b : Ref sig .tc) (hb : b ∉ outs) : StableHlo.after opsB X (Proc.devRef .tc b) = X (Proc.devRef .tc b) :=
  StableHlo.after_of_writes_sub (W := [main_v6, main_v7]) _ X
    ⟨by show ({Proc.devRef .tc main_v6} : Finset (DevRef τ sig)) ⊆ _; decide, by show ({Proc.devRef .tc main_v7} : Finset (DevRef τ sig)) ⊆ _; decide⟩
    (fun h => hb (by simp only [List.mem_cons, List.not_mem_nil, or_false] at h ⊢; tauto))
theorem opsC_keep (X : Valuation τ sig (Elt F)) (b : Ref sig .tc) (hb : b ∉ outs) : StableHlo.after opsC X (Proc.devRef .tc b) = X (Proc.devRef .tc b) :=
  StableHlo.after_of_writes_sub (W := [main_v9, main_c, main_c_0, main_v10]) _ X
    ⟨by show ({Proc.devRef .tc main_v9} : Finset (DevRef τ sig)) ⊆ _; decide, by show ({Proc.devRef .tc main_c} : Finset (DevRef τ sig)) ⊆ _; decide,
      by show ({Proc.devRef .tc main_c_0} : Finset (DevRef τ sig)) ⊆ _; decide, by show ({Proc.devRef .tc main_v10} : Finset (DevRef τ sig)) ⊆ _; decide⟩
    (fun h => hb (by simp only [List.mem_cons, List.not_mem_nil, or_false] at h ⊢; tauto))

theorem notMem_out {b o : Ref sig .tc} (hb : b ∉ outs) (ho : o ∈ outs) : b ≠ o := fun e => hb (e ▸ ho)

/-- A buffer the program does not write, through the values. -/
theorem val1_keep (d : Dev nD) (b : Ref sig .tc) (hb : b ∉ outs) : val1 (valS m) d (Proc.devRef .tc b) = m (d, Proc.devRef .tc b) :=
  (opsA_keep _ b hb).trans (valS_ne m d _ (fun e => notMem_out hb (by decide) (Proc.devRef_injective _ e)) (fun e => notMem_out hb (by decide) (Proc.devRef_injective _ e)))
theorem val3_keep (d : Dev nD) (b : Ref sig .tc) (hb : b ∉ outs) : val3 (valS m) d (Proc.devRef .tc b) = m (d, Proc.devRef .tc b) :=
  (opsB_keep _ b hb).trans ((val2_ne (valS m) d b (notMem_out hb (by decide))).trans (val1_keep m d b hb))
theorem val5_keep (d : Dev nD) (b : Ref sig .tc) (hb : b ∉ outs) : val5 (valS m) d (Proc.devRef .tc b) = m (d, Proc.devRef .tc b) :=
  (opsC_keep _ b hb).trans ((val4_ne (valS m) d b (notMem_out hb (by decide))).trans (val3_keep m d b hb))

/-- What the run of the whole program leaves. -/
def End (r : PUnit × MemSt nD τ sig (Elt F)) : Prop :=
  (∀ c : Dev nD, r.2.mem ((c.tc : Thread nD τ).loc main_v10) = val5 (valS m) c (Proc.devRef .tc main_v10)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8))
  ∧ r.2.sem = fun _ => 0

theorem end_of {r : PUnit × MemSt nD τ sig (Elt F)} (h : QC m r) : End m r := by
  refine ⟨fun c => ?_, h.2⟩
  have k (b : Ref sig .tc) (hu : Proc.devRef .tc b ∈ ucRefs) (hb : b ∉ outs) : r.2.mem ((c.tc : Thread nD τ).loc b) = m ((c.tc : Thread nD τ).loc b) :=
    (h.1 c _ hu).trans (val5_keep m c b hb)
  exact ⟨h.1 c (Proc.devRef .tc main_v10) (by decide), k main_arg0 (by decide) (by decide), k main_arg1 (by decide) (by decide), k main_arg2 (by decide) (by decide),
    k main_arg3 (by decide) (by decide), k main_arg4 (by decide) (by decide), k main_arg5 (by decide) (by decide), k main_arg6 (by decide) (by decide),
    k main_arg7 (by decide) (by decide), k main_arg8 (by decide) (by decide)⟩

theorem run_end [∀ e, Nonempty (Elt F e)] (ρ : Dev nD → PrngReg) (hpre : PreOK m) :
    θ_run (Cert.KernelIdeal.defs (F := F)) (Cert.KernelIdeal.threads (F := F)) ⟨m, fun _ => 0, ρ⟩ (End m) :=
  (θ_run Cert.KernelIdeal.defs _ _).mono (fun _ h => end_of m h) (run_main m ρ hpre)
end

/-! ## The claims without a value -/

/-- At the bits a named constant is its own bits. -/
local instance namedBits : Named Bits where
  named _ _ {φ} bits := (FloatOps.ofBits φ bits : Bits φ)

/-- The two programs' kernels are one table at the bits: row by row the same body. -/
theorem defs₀_eq : Cert.Kernel.defs₀ (F := Bits) = Cert.KernelIdeal.defs₀ (F := Bits) := by
  funext p l a
  match p, l, a with
  | .scVector c s, ⟨0, _⟩, _ => rfl
  | .scVector c s, ⟨1, _⟩, _ => rfl
  | .scVector c s, ⟨2, _⟩, _ => rfl
  | .scVector c s, ⟨3, _⟩, _ => rfl
  | .tc, ⟨0, _⟩, _ => rfl
  | .tc, ⟨1, _⟩, _ => rfl
  | .tc, ⟨2, _⟩, (_, _) => rfl
  | .tc, ⟨3, _⟩, (_, _) => rfl
  | .scScalar c, ⟨0, _⟩, _ => rfl
  | .scScalar c, ⟨1, _⟩, _ => rfl
  | .scScalar c, ⟨2, _⟩, _ => rfl
  | .scScalar c, ⟨3, _⟩, _ => rfl

theorem defs_eq : Cert.Kernel.defs (F := Bits) = Cert.KernelIdeal.defs (F := Bits) :=
  congrArg (fun t => Cert.KernelIdeal.sc.defs (Pipeline.defs Cert.KernelIdeal.pcfgs t)) defs₀_eq

theorem frame_kernel : Cert.quiescent_Kernel := fun m ρ hpre =>
  (θ_run Cert.Kernel.defs _ _).mono (fun _ (h : End (F := Bits) m _) => ⟨fun c => (h.1 c).2, h.2⟩)
    (defs_eq ▸ run_end (F := Bits) m ρ (fun d j => words_of_pre (hpre d) j) :
      θ_run Cert.Kernel.defs Cert.Kernel.threads ⟨m, fun _ => 0, ρ⟩ (End (F := Bits) m))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_kernelIdeal : Cert.quiescent_KernelIdeal := fun m ρ hpre =>
  (θ_run Cert.KernelIdeal.defs _ _).mono (fun _ (h : End (F := Ideal) m _) => ⟨fun c => (h.1 c).2, h.2⟩)
    (run_end (F := Ideal) m ρ (fun d j => words_of_pre (hpre d) j))

theorem preserves : Cert.preserves_Kernel_KernelIdeal := IdealRules.named_const.statement _ _ _ _ _ rfl

end Cert.Proof.Bag

end
-- ==== Proof.Mlp.lean ====
/-
  The three layers at one row, as the two TensorCore kernels compute them.
-/
module

public import proofs.«01_k».proof.Proof.Common
public import proofs.«01_k».proof.Proof.Gen.KernelIdeal.Skeleton
public import Idealize.ShloMosaic.Lib.Pointwise
public import Idealize.ShloMosaic.PureOps.IdealRules

@[expose] public section

noncomputable section

namespace Cert.Proof.Bag

open Cert.KernelIdeal Cert.KernelIdeal.Gen
open Idealize.ShloMosaic

/-- The three layers of one pooled row, at output `o`. -/
def mlp (p : Fin 128 → EReal) (w1 : S100x128.Idx → EReal) (b1 : S100.Idx → EReal) (w2 : S100x100.Idx → EReal) (b2 : S100.Idx → EReal)
    (w3 : S6x100.Idx → EReal) (b3 : S6.Idx → EReal) (o : Fin 6) : EReal :=
  (∑ k : Fin 100, max ((∑ l : Fin 100, max ((∑ q : Fin 128, p q * w1 (ix2 l q)) + b1 (ix1 l)) 0 * w2 (ix2 k l)) + b2 (ix1 k)) 0 * w3 (ix2 o k))
    + b3 (ix1 o)

theorem named_inv : (Named.named κ "inv_count" 0x35A72EF8#32 : Ideal .f32) = ((1 / 802817 : ℝ) : EReal) := by
  show (κ "inv_count").getD _ = _
  rfl

section
variable (w1 : FVec Ideal S100x128 .f32) (b1 : FVec Ideal S100 .f32) (w2 : FVec Ideal S100x100 .f32) (b2 : FVec Ideal S100 .f32)
  (w3 : FVec Ideal S6x100 .f32) (b3 : FVec Ideal S6 .f32)

set_option maxRecDepth 65536 in
theorem pay2_apply (x : FVec Ideal S16384x128 .f32) (r : Fin 16384) (o : Fin 6) :
    k2_pay1 (F := Ideal) x w1 (shapeCast S1x100 b1 shapeCasts_S100_S1x100) w2 (shapeCast S1x100 b2 shapeCasts_S100_S1x100) w3
      (shapeCast S6x1 b3 shapeCasts_S6_S6x1) (ix2 o r)
    = mlp (fun q => x (ix2 r q)) w1 b1 w2 b2 w3 b3 o := by
  pointwise! [k2_pay1, mlp]

set_option maxRecDepth 65536 in
theorem pay3_apply (s : FVec Ideal S32x128 .f32) (x : FVec Ideal S1x128 .f32) (o : Fin 6) :
    k3_pay1 (F := Ideal) s x w1 (shapeCast S1x100 b1 shapeCasts_S100_S1x100) w2 (shapeCast S1x100 b2 shapeCasts_S100_S1x100) w3
      (shapeCast S1x6 b3 shapeCasts_S6_S1x6) (ix2 0 o)
    = mlp (fun q => ((∑ w : Fin 32, s (ix2 w q)) + x (ix2 0 q)) * ((1 / 802817 : ℝ) : EReal)) w1 b1 w2 b2 w3 b3 o := by
  pointwise [k3_pay1, mlp, named_inv]

end

end Cert.Proof.Bag

end
-- ==== Proof.Sums.lean ====
/-
  The partial sums as sums: row `w` of the second SparseCore call's result is the sum of the table's rows named by the words of
  worker `w`'s stretch of the list, and all the rows together are the sum over the whole tail of the list.
-/
module

public import proofs.«01_k».proof.Proof.TailBody
public import Idealize.ShloMosaic.Lib.Pointwise
public import Idealize.ShloMosaic.Lib.IdealHost

@[expose] public section

noncomputable section

namespace Cert.Proof.Bag

open Cert.KernelIdeal Cert.KernelIdeal.Gen

open Idealize.ShloMosaic

/-- The table's row named by the word at place `t`. -/
def rowAt (fx : S819200.Idx → BitVec 32) (e : S1000000x128.Idx → EReal) (t : ℕ) (q : Fin 128) : EReal :=
  e (ix2 (rowOfWord (wordFrom fx t 0)) q)

theorem rowsFrom_apply (v : S128x128.Idx → EReal) (j n : ℕ) (a : FVec Ideal S16 .f32) (k : ℕ) (l : S16.Idx) :
    rowsFrom (F := Ideal) v j n a k l = (a l : EReal) + ∑ p ∈ Finset.range k, (laneOf Ideal v (n + p) j l : EReal) := by
  induction k with
  | zero => simp [rowsFrom]
  | succ k ih =>
    rw [Finset.sum_range_succ, ← add_assoc, ← ih]
    rfl

theorem pick_accRows (v : S128x128.Idx → EReal) (n k : ℕ) (a : Acc Ideal) (j : ℕ) (hj : j < 8) :
    pick (accRows (F := Ideal) v n k a) j = rowsFrom (F := Ideal) v j n (pick a j) k := by
  interval_cases j <;> rfl

theorem lane_rowsAt (fx : S819200.Idx → BitVec 32) (e : S1000000x128.Idx → EReal) (b c p j : ℕ) (hp : p < 128) (l : S16.Idx) :
    laneOf Ideal (rowsAt (F := Ideal) fx e b c) (0 + p) j l
      = rowAt fx e (b + (128 * c + p)) ⟨(16 * j + (l 0).val) % 128, Nat.mod_lt _ (by decide)⟩ := by
  have h : (0 + p) % 128 = p := by omega
  have h' : wordFrom fx b (128 * c + (0 + p) % 128) = wordFrom fx (b + (128 * c + p)) 0 := by
    rw [h]; rfl
  refine congrArg e (funext fun i => ?_)
  match i with
  | 0 => exact congrArg rowOfWord h'
  | 1 => rfl

theorem accAfter_apply (fx : S819200.Idx → BitVec 32) (e : S1000000x128.Idx → EReal) (b : ℕ) (a : Acc Ideal) (c j : ℕ) (hj : j < 8) (l : S16.Idx) :
    pick (accAfter (F := Ideal) fx e b a c) j l = (pick a j l : EReal)
      + ∑ p ∈ Finset.range (128 * c), rowAt fx e (b + p) ⟨(16 * j + (l 0).val) % 128, Nat.mod_lt _ (by decide)⟩ := by
  induction c with
  | zero => simp [accAfter]
  | succ c ih =>
    rw [show 128 * (c + 1) = 128 * c + 128 from rfl, Finset.sum_range_add, ← add_assoc, ← ih]
    show pick (accRows (F := Ideal) (rowsAt fx e b c) 0 128 (accAfter fx e b a c)) j l = _
    rw [pick_accRows _ _ _ _ _ hj, rowsFrom_apply]
    refine congrArg _ (Finset.sum_congr rfl fun p hp => ?_)
    exact lane_rowsAt fx e b c p j (Finset.mem_range.1 hp) l

theorem zeroAcc_apply (j : ℕ) (hj : j < 8) (l : S16.Idx) : (pick (zeroAcc Ideal) j l : EReal) = 0 := by
  have h : Ideal.ofBits .f32 0x00000000#32 = 0 := Ideal.ofBits_zero_f32
  interval_cases j <;> exact h

theorem partsVal_apply (fx : S819200.Idx → BitVec 32) (e : S1000000x128.Idx → EReal) (w : Fin 32) (q : Fin 128) :
    partsVal (F := Ideal) fx e (ix2 w q) = ∑ p ∈ Finset.range 25088, rowAt fx e (16384 + (25088 * w.val + p)) q := by
  have hq := q.isLt
  show pick (accAfter (F := Ideal) fx e (25088 * w.val + 16384) (zeroAcc Ideal) 196) (q.val / 16) (at1 ⟨q.val % 16, Nat.mod_lt _ (by decide)⟩) = _
  rw [accAfter_apply _ _ _ _ _ _ (by omega), zeroAcc_apply _ (by omega), zero_add]
  refine Finset.sum_congr rfl fun p _ => ?_
  have h1 : 25088 * w.val + 16384 + p = 16384 + (25088 * w.val + p) := by omega
  have h2 : (⟨(16 * (q.val / 16) + q.val % 16) % 128, Nat.mod_lt _ (by decide)⟩ : Fin 128) = q := Fin.ext (by
    show (16 * (q.val / 16) + q.val % 16) % 128 = q.val
    omega)
  rw [h1]
  exact congrArg (rowAt fx e (16384 + (25088 * w.val + p))) h2

theorem sum_stretches (g : ℕ → EReal) (B n : ℕ) :
    ∑ w ∈ Finset.range n, ∑ p ∈ Finset.range B, g (B * w + p) = ∑ p ∈ Finset.range (B * n), g p := by
  induction n with
  | zero => simp
  | succ n ih => rw [Finset.sum_range_succ, ih, Nat.mul_succ, Finset.sum_range_add]

theorem partsVal_sum (fx : S819200.Idx → BitVec 32) (e : S1000000x128.Idx → EReal) (q : Fin 128) :
    ∑ w : Fin 32, (partsVal (F := Ideal) fx e (ix2 w q) : EReal) = ∑ p ∈ Finset.range 802816, rowAt fx e (16384 + p) q := by
  simp only [partsVal_apply]
  rw [Fin.sum_univ_eq_sum_range (fun w => ∑ p ∈ Finset.range 25088, rowAt fx e (16384 + (25088 * w + p)) q) 32]
  exact sum_stretches (fun p => rowAt fx e (16384 + p) q) 25088 32

end Cert.Proof.Bag

end
-- ==== Proof.RefVal.lean ====
/-
  The reference, read at an index: the three layers over its pooled rows, and the pooled rows themselves.
-/
module

public import proofs.«01_k».proof.Proof.Mlp
public import proofs.«01_k».proof.Proof.Sums
public import proofs.«01_k».proof.Proof.Gen.ReferenceIdeal
public import proofs.«01_k».proof.Proof.Gen.ReferenceIdeal.Run
public import Idealize.ShloMosaic.Lib.Pointwise
public import Idealize.ShloMosaic.Lib.Routing.Ops
public import Idealize.ShloMosaic.Lib.Routing.OpsPair
public import Idealize.ShloMosaic.Lib.ReduceAll
public import Idealize.ShloMosaic.Lib.IdealHost

@[expose] public section

noncomputable section

namespace Cert.Proof.Bag

open Cert.ReferenceIdeal Cert.ReferenceIdeal.Gen
open Idealize.ShloMosaic
open Idealize.ShloMosaic.TcCoe

section
variable (w1 : FVec Ideal S100x128 .f32) (b1 : FVec Ideal S100 .f32) (w2 : FVec Ideal S100x100 .f32) (b2 : FVec Ideal S100 .f32)
  (w3 : FVec Ideal S6x100 .f32) (b3 : FVec Ideal S6 .f32)

/-- The reference's three layers over pooled rows `p`. -/
def refMlp (p : FVec Ideal S16384x128 .f32) : FVec Ideal S16384x6 .f32 :=
  addf (Host.dotGeneral dot_S16384x100_S100x6_S16384x6_1_0_0_1_n_n none (maximumf (addf (Host.dotGeneral dot_S16384x100_S100x100_S16384x100_1_0_0_1_n_n none (maximumf (addf (Host.dotGeneral dot_S16384x128_S128x100_S16384x100_1_0_0_1_n_n none p (transpose S128x100 [1, 0] w1 transposes_S100x128_S128x100_1_0)) (broadcastInDim S16384x100 ![0, 1] bcast_S1x100_S16384x100_0_1 (broadcastInDim S1x100 ![1] bcast_S100_S1x100_1 b1))) (broadcastInDim S16384x100 ![] bcast_S_S16384x100 (constant S_ .f32 0x00000000#32))) (transpose S100x100 [1, 0] w2 transposes_S100x100_S100x100_1_0)) (broadcastInDim S16384x100 ![0, 1] bcast_S1x100_S16384x100_0_1 (broadcastInDim S1x100 ![1] bcast_S100_S1x100_1 b2))) (broadcastInDim S16384x100 ![] bcast_S_S16384x100 (constant S_ .f32 0x00000000#32))) (transpose S100x6 [1, 0] w3 transposes_S6x100_S100x6_1_0)) (broadcastInDim S16384x6 ![0, 1] bcast_S1x6_S16384x6_0_1 (broadcastInDim S1x6 ![1] bcast_S6_S1x6_1 b3))

set_option maxRecDepth 65536 in
theorem refMlp_apply (p : FVec Ideal S16384x128 .f32) (r : Fin 16384) (o : Fin 6) :
    refMlp w1 b1 w2 b2 w3 b3 p (ix2 r o) = mlp (fun q => p (ix2 r q)) w1 b1 w2 b2 w3 b3 o := by
  pointwise! [refMlp, mlp]

end

/-- The bag of each place. -/
def refSeg (o : IVec S16384 32) : IVec S819200 32 :=
  subi (Host.reduce IntOp.addi (extui 32 (cmpi .sle (broadcastInDim S819200x16384 ![0, 1] bcast_S1x16384_S819200x16384_0_1
      (broadcastInDim S1x16384 ![1] bcast_S16384_S1x16384_1 o))
    (broadcastInDim S819200x16384 ![0, 1] bcast_S819200x1_S819200x16384_0_1
      (broadcastInDim S819200x1 ![0] bcast_S819200_S819200x1_0 (iotaInDim S819200 32 0)))) natLt_1_32)
    (constantI S_ 32 0#32) reducesTo_S819200x16384_S819200_d1 h_S_) (broadcastInDim S819200 ![] bcast_S_S819200 (constantI S_ 32 1#32))

/-- The row numbers, as a column. -/
def refIdx (x : IVec S819200 32) : IVec S819200x1 32 :=
  broadcastInDim S819200x1 ![0] bcast_S819200_S819200x1_0
    (select (cmpi .slt x (broadcastInDim S819200 ![] bcast_S_S819200 (constantI S_ 32 0#32)))
      (addi x (broadcastInDim S819200 ![] bcast_S_S819200 (constantI S_ 32 1000000#32))) x)

/-- The rows taken from the table. -/
def refTake (x : IVec S819200 32) (e : FVec Ideal S1000000x128 .f32) : FVec Ideal S819200x128 .f32 :=
  select (broadcastInDim S819200x128 ![0] bcast_S819200_S819200x128_0 (Host.reduce IntOp.andi
      (andi (cmpi .sge (refIdx x) (broadcastInDim S819200x1 ![] bcast_S_S819200x1 (constantI S_ 32 0#32)))
        (cmpi .sle (refIdx x) (broadcastInDim S819200x1 ![0, 1] bcast_S1x1_S819200x1_0_1
          (broadcastInDim S1x1 ![1] bcast_S1_S1x1_1 (constantI S1 32 999999#32)))))
      (constantI S_ 1 1#1) reducesTo_S819200x1_S819200_d1 h_S_))
    (Host.gather gather_S1000000x128_S819200x1_S819200x128_1_0_n_n_0_1_1128 e (refIdx x))
    (broadcastInDim S819200x128 ![] bcast_S_S819200x128 (constant S_ .f32 0x7FC00000#32))

/-- The bags' sums. -/
def refSums (x : IVec S819200 32) (o : IVec S16384 32) (e : FVec Ideal S1000000x128 .f32) : FVec Ideal S16384x128 .f32 :=
  Host.scatterAdd scatter_S16384x128_S819200x1_S819200x128_1_0_0_1 (broadcastInDim S16384x128 ![] bcast_S_S16384x128 (constant S_ .f32 0x00000000#32))
    (broadcastInDim S819200x1 ![0] bcast_S819200_S819200x1_0 (refSeg o)) (refTake x e)

/-- The bags' lengths. -/
def refCounts (o : IVec S16384 32) : FVec Ideal S16384 .f32 :=
  Host.scatterAdd scatter_S16384_S819200x1_S819200_n_0_0_1 (broadcastInDim S16384 ![] bcast_S_S16384 (constant S_ .f32 0x00000000#32))
    (broadcastInDim S819200x1 ![0] bcast_S819200_S819200x1_0 (refSeg o)) (broadcastInDim S819200 ![] bcast_S_S819200 (constant S_ .f32 0x3F800000#32))

/-- The pooled rows. -/
def refPool (x : IVec S819200 32) (o : IVec S16384 32) (e : FVec Ideal S1000000x128 .f32) : FVec Ideal S16384x128 .f32 :=
  Host.divf (refSums x o e) (broadcastInDim S16384x128 ![0, 1] bcast_S16384x1_S16384x128_0_1 (broadcastInDim S16384x1 ![0] bcast_S16384_S16384x1_0
    (maximumf (refCounts o) (broadcastInDim S16384 ![] bcast_S_S16384 (constant S_ .f32 0x3F800000#32)))))

theorem res_eq (m : (ℓ : Loc nD τ sig) → Buf (Elt Ideal) ℓ) (c : Dev nD) :
    Cert.ReferenceIdeal.Value.res_main_v39 (F := Ideal) m c
      = refMlp (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (refPool (m ((c.tc : Thread nD τ).loc main_arg0)) (m ((c.tc : Thread nD τ).loc main_arg1)) (m ((c.tc : Thread nD τ).loc main_arg2))) := rfl

/-! ## The bag of a place -/

theorem count_le_min (t n : ℕ) : Nat.count (fun q => q ≤ t) n = min (t + 1) n := by
  induction n with
  | zero => simp
  | succ n ih =>
    rw [Nat.count_succ, ih]
    split <;> omega

theorem seg_word (n : ℕ) (h : n < 819200) : BitVec.ofNat 32 (min (n + 1) 16384) - 1#32 = BitVec.ofNat 32 (min n 16383) := by
  apply BitVec.eq_of_toNat_eq
  simp only [BitVec.toNat_sub, BitVec.toNat_ofNat]
  omega

theorem sle_ofNat (a b : ℕ) (ha : a < 2 ^ 31) (hb : b < 2 ^ 31) :
    IntOp.cmpi .sle (BitVec.ofNat 32 a) (BitVec.ofNat 32 b) = 1#1 ↔ a ≤ b := by
  simp only [IntOp.cmpi, BitVec.sle_eq_decide, BitVec.toInt_eq_toNat_cond, BitVec.toNat_ofNat]
  have ha' : a % 2 ^ 32 = a := Nat.mod_eq_of_lt (by omega)
  have hb' : b % 2 ^ 32 = b := Nat.mod_eq_of_lt (by omega)
  rw [ha', hb', if_pos (by omega), if_pos (by omega)]
  by_cases h : a ≤ b
  · simp [h]
  · simp [h]

section
variable (o : IVec S16384 32) (ho : ∀ j : S16384.Idx, o j = BitVec.ofNat 32 (j 0).val)
include ho

set_option maxRecDepth 65536 in
theorem refSeg_apply (t : Fin 819200) : refSeg o (ix1 t) = BitVec.ofNat 32 (min t.val 16383) := by
  have ht := t.isLt
  unfold refSeg
  show IntOp.subi (Host.reduce IntOp.addi _ _ _ _ (ix1 t)) 1#32 = _
  rw [show (ix1 t : S819200.Idx) = ValueIdx.ix1 t from rfl]
  refine (congrArg (IntOp.subi · 1#32) (Routing.reduce_count (n := 819200) (m := 16384) (by decide) _ _ _ _ t (fun q => q ≤ t.val) ?_)).trans ?_
  · intro q
    have hq := q.isLt
    rw [show (ValueIdx.ix2 t q : S819200x16384.Idx) = ix2 t q from rfl]
    pointwise []
    rw [ho]
    exact sle_ofNat _ _ (by show q.val < _; omega) (by omega)
  · rw [count_le_min]
    exact seg_word _ ht
end

/-! ## The rows taken -/

section
variable (x : IVec S819200 32) (hx : ∀ j : S819200.Idx, (x j).toNat < 1000000) (e : FVec Ideal S1000000x128 .f32)
include hx

theorem refIdx_apply (t : Fin 819200) (z : Fin 1) : refIdx x (ix2 t z) = x (ix1 t) := by
  pointwise [refIdx]
  exact Routing.wrap_of_lt _ _ (by have := hx (ix1 t); omega)

theorem refTake_apply (t : Fin 819200) (q : Fin 128) : refTake x e (ix2 t q) = e (ix2 (rowOfWord (x (ix1 t))) q) := by
  have hg : Host.gather gather_S1000000x128_S819200x1_S819200x128_1_0_n_n_0_1_1128 e (refIdx x) (ix2 t q)
      = e (ix2 (rowOfWord (x (ix1 t))) q) := by
    have := Routing.gather_row gather_S1000000x128_S819200x1_S819200x128_1_0_n_n_0_1_1128 rfl rfl rfl rfl rfl e (refIdx x) t q
      (rowOfWord (x (ix1 t))) (by
        rw [show (ValueIdx.ix2 t (0 : Fin 1) : S819200x1.Idx) = ix2 t 0 from rfl, refIdx_apply x hx, rowOfWord_val (hx _)]
        exact ((BitVec.ofNat_toNat _ _).trans (BitVec.setWidth_eq _)).symm) (by decide)
    exact this
  unfold refTake
  pointwise []
  have h1 : IntOp.cmpi .sge (x (ix1 t)) 0#32 = 1#1 := by
    have h := (sle_ofNat 0 (x (ix1 t)).toNat (by decide) (by have := hx (ix1 t); omega)).2 (Nat.zero_le _)
    rw [BitVec.ofNat_toNat, BitVec.setWidth_eq] at h
    exact h
  have h2 : IntOp.cmpi .sle (x (ix1 t)) 999999#32 = 1#1 := by
    have h := (sle_ofNat (x (ix1 t)).toNat 999999 (by have := hx (ix1 t); omega) (by decide)).2 (by have := hx (ix1 t); omega)
    rw [BitVec.ofNat_toNat, BitVec.setWidth_eq] at h
    exact h
  simp only [refIdx_apply x hx, h1, h2, Finset.univ_unique, Finset.fold_singleton, hg]
  rfl
end

/-! ## The sums -/

section
variable (o : IVec S16384 32) (ho : ∀ j : S16384.Idx, o j = BitVec.ofNat 32 (j 0).val)
include ho

theorem seg_toInt (n : ℕ) : (BitVec.ofNat 32 (min n 16383)).toInt = ((min n 16383 : ℕ) : Int) := by
  rw [BitVec.toInt_eq_toNat_cond, BitVec.toNat_ofNat]
  have h : min n 16383 % 2 ^ 32 = min n 16383 := Nat.mod_eq_of_lt (by omega)
  rw [h, if_pos (by omega)]

set_option maxRecDepth 65536 in
theorem lands2 (t : Fin 819200) (q : Fin 128) (r : Fin 16384) (y : Fin 128) :
    scatter_S16384x128_S819200x1_S819200x128_1_0_0_1.resultIdx? (ix2 t q)
        (broadcastInDim S819200x1 ![0] bcast_S819200_S819200x1_0 (refSeg o)) = some (ix2 r y)
      ↔ min t.val 16383 = r.val ∧ q = y := by
  have h := Routing.resultIdx?_ix2 scatter_S16384x128_S819200x1_S819200x128_1_0_0_1 (ix2 t q)
    (broadcastInDim S819200x1 ![0] bcast_S819200_S819200x1_0 (refSeg o)) r y
  have h0 : scatter_S16384x128_S819200x1_S819200x128_1_0_0_1.start (ix2 t q)
      (broadcastInDim S819200x1 ![0] bcast_S819200_S819200x1_0 (refSeg o)) 0 = (refSeg o (ix1 t)).toInt := by
    have hi : ∀ c, scatter_S16384x128_S819200x1_S819200x128_1_0_0_1.siIdx (ix2 t q) c = ix2 t (0 : Fin 1) := fun c => funext fun b => by
      match b with
      | 0 => rfl
      | 1 => exact Subsingleton.elim (α := Fin 1) _ _
    unfold ScatterDims.start
    rw [dif_pos (by decide), hi]
    pointwise []
  have h1 : scatter_S16384x128_S819200x1_S819200x128_1_0_0_1.start (ix2 t q)
      (broadcastInDim S819200x1 ![0] bcast_S819200_S819200x1_0 (refSeg o)) 1 = 0 := rfl
  have w0 : scatter_S16384x128_S819200x1_S819200x128_1_0_0_1.window (ix2 t q) 0 = 0 := rfl
  have w1 : scatter_S16384x128_S819200x1_S819200x128_1_0_0_1.window (ix2 t q) 1 = q.val := rfl
  rw [h0, h1, w0, w1, refSeg_apply o ho, seg_toInt o ho] at h
  refine h.trans ⟨fun hh => ⟨by omega, Fin.ext (by omega)⟩, fun hh => ⟨by omega, by have := congrArg Fin.val hh.2; omega⟩⟩

set_option maxRecDepth 65536 in
theorem lands1 (t : Fin 819200) (r : Fin 16384) :
    scatter_S16384_S819200x1_S819200_n_0_0_1.resultIdx? (ix1 t)
        (broadcastInDim S819200x1 ![0] bcast_S819200_S819200x1_0 (refSeg o)) = some (ix1 r)
      ↔ min t.val 16383 = r.val := by
  have h := Routing.resultIdx?_ix1 scatter_S16384_S819200x1_S819200_n_0_0_1 (ix1 t)
    (broadcastInDim S819200x1 ![0] bcast_S819200_S819200x1_0 (refSeg o)) r
  have h0 : scatter_S16384_S819200x1_S819200_n_0_0_1.start (ix1 t)
      (broadcastInDim S819200x1 ![0] bcast_S819200_S819200x1_0 (refSeg o)) 0 = (refSeg o (ix1 t)).toInt := by
    have hi : ∀ c, scatter_S16384_S819200x1_S819200_n_0_0_1.siIdx (ix1 t) c = ix2 t (0 : Fin 1) := fun c => funext fun b => by
      match b with
      | 0 => rfl
      | 1 => exact Subsingleton.elim (α := Fin 1) _ _
    unfold ScatterDims.start
    rw [dif_pos (by decide), hi]
    pointwise []
  have w0 : scatter_S16384_S819200x1_S819200_n_0_0_1.window (ix1 t) 0 = 0 := rfl
  rw [h0, w0, refSeg_apply o ho, seg_toInt o ho] at h
  refine h.trans ⟨fun hh => by omega, fun hh => by omega⟩

end

end Cert.Proof.Bag

end
-- ==== Proof.RefPool.lean ====
/-
  The reference's bags: each pooled row is a row of the table, and the last the sum over the tail of the list, divided by its length.
-/
module

public import proofs.«01_k».proof.Proof.RefVal

@[expose] public section

noncomputable section

namespace Cert.Proof.Bag

open Cert.ReferenceIdeal Cert.ReferenceIdeal.Gen
open Idealize.ShloMosaic

/-- Rows added where they land: each result row is the sum of the rows that name it. -/
theorem scatter_rows {N n B : ℕ} (d : ScatterDims ⟨2, ![N, B]⟩ ⟨2, ![n, 1]⟩ ⟨2, ![n, B]⟩) (idx : IVec ⟨2, ![n, 1]⟩ 32)
    (x : FVec Ideal ⟨2, ![N, B]⟩ .f32) (upd : FVec Ideal ⟨2, ![n, B]⟩ .f32) (f : ℕ → ℕ)
    (hl : ∀ (t : Fin n) (q : Fin B) (r : Fin N) (y : Fin B), d.resultIdx? (ix2 t q) idx = some (ix2 r y) ↔ f t.val = r.val ∧ q = y)
    (g : ℕ → Fin B → EReal) (hg : ∀ (t : Fin n) (q : Fin B), upd (ix2 t q) = g t.val q) (r : Fin N) (y : Fin B) (hx : x (ix2 r y) = 0) :
    Host.scatterAdd d x idx upd (ix2 r y) = ∑ t ∈ Finset.range n, if f t = r.val then g t y else 0 := by
  have h : Host.scatterAdd d x idx upd (ix2 r y)
      = (x (ix2 r y) : EReal) + ∑ j ∈ Finset.univ.filter (fun j => d.resultIdx? j idx = some (ix2 r y)), (upd j : EReal) := rfl
  rw [h, hx, zero_add, Finset.sum_filter, sum_idx2, ← Fin.sum_univ_eq_sum_range (fun t => if f t = r.val then g t y else 0)]
  refine Finset.sum_congr rfl fun t _ => ?_
  simp only [hl, hg]
  by_cases hc : f t.val = r.val
  · simp [hc]
  · simp [hc]

/-- The same of single numbers. -/
theorem scatter_cells {N n : ℕ} (d : ScatterDims ⟨1, ![N]⟩ ⟨2, ![n, 1]⟩ ⟨1, ![n]⟩) (idx : IVec ⟨2, ![n, 1]⟩ 32)
    (x : FVec Ideal ⟨1, ![N]⟩ .f32) (upd : FVec Ideal ⟨1, ![n]⟩ .f32) (f : ℕ → ℕ)
    (hl : ∀ (t : Fin n) (r : Fin N), d.resultIdx? (ix1 t) idx = some (ix1 r) ↔ f t.val = r.val)
    (hg : ∀ t : Fin n, upd (ix1 t) = (1 : EReal)) (r : Fin N) (hx : x (ix1 r) = 0) :
    Host.scatterAdd d x idx upd (ix1 r) = ∑ t ∈ Finset.range n, if f t = r.val then (1 : EReal) else 0 := by
  have h : Host.scatterAdd d x idx upd (ix1 r)
      = (x (ix1 r) : EReal) + ∑ j ∈ Finset.univ.filter (fun j => d.resultIdx? j idx = some (ix1 r)), (upd j : EReal) := rfl
  rw [h, hx, zero_add, Finset.sum_filter, sum_idx1, ← Fin.sum_univ_eq_sum_range (fun t => if f t = r.val then (1 : EReal) else 0)]
  refine Finset.sum_congr rfl fun t _ => ?_
  simp only [hl, hg]

section
variable (o : IVec S16384 32) (ho : ∀ j : S16384.Idx, o j = BitVec.ofNat 32 (j 0).val)
include ho

theorem refTake_rowAt (x : IVec S819200 32) (hx : ∀ j : S819200.Idx, (x j).toNat < 1000000) (e : FVec Ideal S1000000x128 .f32)
    (t : Fin 819200) (q : Fin 128) : refTake x e (ix2 t q) = rowAt x e t.val q := by
  have h : wordFrom x t.val 0 = x (ix1 t) := (wordFrom_eq x (b := t.val) (k := 0) t.isLt).trans (congrArg x (funext fun i => by
    match i with
    | 0 => rfl))
  rw [refTake_apply x hx, rowAt, h]

theorem refSums_sum (x : IVec S819200 32) (hx : ∀ j : S819200.Idx, (x j).toNat < 1000000) (e : FVec Ideal S1000000x128 .f32)
    (r : Fin 16384) (y : Fin 128) :
    refSums x o e (ix2 r y) = ∑ t ∈ Finset.range 819200, if min t 16383 = r.val then rowAt x e t y else 0 := by
  have h0 : broadcastInDim S16384x128 ![] bcast_S_S16384x128 (constant (F := Ideal) S_ .f32 0x00000000#32) (ix2 r y) = 0 := by
    pointwise []
  exact scatter_rows scatter_S16384x128_S819200x1_S819200x128_1_0_0_1 _ _ _ (fun t => min t 16383) (lands2 o ho)
    (rowAt x e) (refTake_rowAt o ho x hx e) r y h0

theorem refCounts_sum (r : Fin 16384) :
    refCounts o (ix1 r) = ∑ t ∈ Finset.range 819200, if min t 16383 = r.val then (1 : EReal) else 0 := by
  have h0 : broadcastInDim S16384 ![] bcast_S_S16384 (constant (F := Ideal) S_ .f32 0x00000000#32) (ix1 r) = 0 := by
    pointwise []
  have h1 : ∀ t : Fin 819200, broadcastInDim S819200 ![] bcast_S_S819200 (constant (F := Ideal) S_ .f32 0x3F800000#32) (ix1 t) = 1 := fun t => by
    pointwise []
  exact scatter_cells scatter_S16384_S819200x1_S819200_n_0_0_1 _ _ _ (fun t => min t 16383) (lands1 o ho) h1 r h0

end

theorem bag_single (f : ℕ → EReal) (r : ℕ) (hr : r < 16383) :
    (∑ t ∈ Finset.range 819200, if min t 16383 = r then f t else 0) = f r := by
  rw [Finset.sum_eq_single r (fun t _ ht => if_neg (by omega)) (fun h => absurd (Finset.mem_range.2 (by omega)) h)]
  exact if_pos (by omega)

theorem bag_tail (f : ℕ → EReal) :
    (∑ t ∈ Finset.range 819200, if min t 16383 = 16383 then f t else 0) = (∑ p ∈ Finset.range 802816, f (16384 + p)) + f 16383 := by
  rw [show 819200 = 16383 + (1 + 802816) from rfl, Finset.sum_range_add, Finset.sum_range_add,
    Finset.sum_eq_zero (fun t ht => if_neg (by have := Finset.mem_range.1 ht; omega)), zero_add, Finset.sum_range_one, add_comm]
  refine congrArg₂ _ (Finset.sum_congr rfl fun p _ => ?_) (if_pos (by omega))
  rw [if_pos (by omega), ← add_assoc]

theorem sum_ones (n : ℕ) : ∑ _t ∈ Finset.range n, (1 : EReal) = ((n : ℝ) : EReal) := by
  induction n with
  | zero => simp
  | succ n ih => rw [Finset.sum_range_succ, ih, Nat.cast_succ, EReal.coe_add, EReal.coe_one]

/-! ## The pooled rows -/

theorem pool_apply (s : FVec Ideal S16384x128 .f32) (c : FVec Ideal S16384 .f32) (r : Fin 16384) (y : Fin 128) :
    Host.divf s (broadcastInDim S16384x128 ![0, 1] bcast_S16384x1_S16384x128_0_1 (broadcastInDim S16384x1 ![0] bcast_S16384_S16384x1_0
      (maximumf c (broadcastInDim S16384 ![] bcast_S_S16384 (constant S_ .f32 0x3F800000#32))))) (ix2 r y)
      = Ideal.div (s (ix2 r y)) (max (c (ix1 r)) 1) := by
  pointwise []

section
variable (x : IVec S819200 32) (o : IVec S16384 32) (e : FVec Ideal S1000000x128 .f32)
  (ho : ∀ j : S16384.Idx, o j = BitVec.ofNat 32 (j 0).val) (hx : ∀ j : S819200.Idx, (x j).toNat < 1000000)
include ho hx

theorem refPool_single (r : Fin 16384) (y : Fin 128) (hr : r.val < 16383) : refPool x o e (ix2 r y) = rowAt x e r.val y := by
  have h : refPool x o e (ix2 r y) = Ideal.div (refSums x o e (ix2 r y)) (max (refCounts o (ix1 r)) 1) := pool_apply _ _ _ _
  rw [h, refSums_sum o ho x hx, refCounts_sum o ho, bag_single _ _ hr, bag_single _ _ hr, max_self, ← EReal.coe_one,
    Ideal.div_coe one_ne_zero]
  simp

theorem refPool_tail (y : Fin 128) : refPool x o e (ix2 (16383 : Fin 16384) y)
    = ((∑ p ∈ Finset.range 802816, rowAt x e (16384 + p) y) + rowAt x e 16383 y) * ((1 / 802817 : ℝ) : EReal) := by
  have h : refPool x o e (ix2 (16383 : Fin 16384) y)
      = Ideal.div (refSums x o e (ix2 (16383 : Fin 16384) y)) (max (refCounts o (ix1 (16383 : Fin 16384))) 1) := pool_apply _ _ _ _
  have hv : ((16383 : Fin 16384)).val = 16383 := rfl
  have hn : (∑ p ∈ Finset.range 802816, (1 : EReal)) + 1 = ((802817 : ℝ) : EReal) := by
    rw [sum_ones, ← EReal.coe_one, ← EReal.coe_add]
    norm_num
  have hm : max ((802817 : ℝ) : EReal) 1 = ((802817 : ℝ) : EReal) := max_eq_left (by
    rw [← EReal.coe_one]; exact EReal.coe_le_coe_iff.2 (by norm_num))
  rw [h, refSums_sum o ho x hx, refCounts_sum o ho, hv, bag_tail, bag_tail (fun _ => 1), hn, hm, Ideal.div_coe (by norm_num)]

end

end Cert.Proof.Bag

end
-- ==== Proof.Value.lean ====
/-
  The value: what the kernel leaves is what the reference computes.
-/
module

public import proofs.«01_k».proof.Proof.Frames
public import proofs.«01_k».proof.Proof.RefPool
public import proofs.«01_k».proof.Defs

@[expose] public section

noncomputable section

namespace Cert.Proof.Bag

open Cert.KernelIdeal Cert.KernelIdeal.Gen

open Idealize.ShloMosaic
open Idealize.ShloMosaic.TcCoe
open Idealize.SL.Sem

/-! ## The host's operations, read -/

section
variable (X : Valuation τ sig (Elt Ideal))

theorem opsA_v2 : StableHlo.after opsA X (Proc.devRef .tc main_v2) = shapeCast S1x100 (X (Proc.devRef .tc main_arg4)) shapeCasts_S100_S1x100 := by
  after_results
  rfl
theorem opsA_v3 : StableHlo.after opsA X (Proc.devRef .tc main_v3) = shapeCast S1x100 (X (Proc.devRef .tc main_arg6)) shapeCasts_S100_S1x100 := by
  after_results
  rfl
theorem opsA_v4 : StableHlo.after opsA X (Proc.devRef .tc main_v4) = shapeCast S6x1 (X (Proc.devRef .tc main_arg8)) shapeCasts_S6_S6x1 := by
  after_results
  rfl
theorem opsA_v0 : StableHlo.after opsA X (Proc.devRef .tc main_v0) = X (Proc.devRef .tc main_v0) := by
  after_results
theorem opsA_v1 : StableHlo.after opsA X (Proc.devRef .tc main_v1) = X (Proc.devRef .tc main_v1) := by
  after_results
theorem opsB_v1 : StableHlo.after opsB X (Proc.devRef .tc main_v1) = X (Proc.devRef .tc main_v1) := by
  after_results
theorem opsB_v2 : StableHlo.after opsB X (Proc.devRef .tc main_v2) = X (Proc.devRef .tc main_v2) := by
  after_results
theorem opsB_v3 : StableHlo.after opsB X (Proc.devRef .tc main_v3) = X (Proc.devRef .tc main_v3) := by
  after_results
theorem opsB_v5 : StableHlo.after opsB X (Proc.devRef .tc main_v5) = X (Proc.devRef .tc main_v5) := by
  after_results
theorem opsB_v6 : StableHlo.after opsB X (Proc.devRef .tc main_v6)
    = extractStridedSlice S1x128 ![16383, 0] (X (Proc.devRef .tc main_v0)) slices_S16384x128_S1x128_16383_0 := by
  after_results
theorem opsB_v7 : StableHlo.after opsB X (Proc.devRef .tc main_v7) = shapeCast S1x6 (X (Proc.devRef .tc main_arg8)) shapeCasts_S6_S1x6 := by
  after_results
  rfl
theorem opsC_v10 : StableHlo.after opsC X (Proc.devRef .tc main_v10)
    = Host.dynamicUpdateSlice (transpose S16384x6 [1, 0] (X (Proc.devRef .tc main_v5)) transposes_S6x16384_S16384x6_1_0) (X (Proc.devRef .tc main_v8))
        (![16383, 0] : Fin 2 → Int) updateFits_S16384x6_S1x6 := by
  after_results
  refine congrArg (fun st => Host.dynamicUpdateSlice _ _ st _) (funext fun k => ?_)
  match k with
  | 0 =>
    have h : StableHlo.after [opT, opI, opJ] X (Proc.devRef .tc main_c) = constantI S_ 32 16383#32 := by
      after_results
    exact congrArg (fun b : IVec S_ 32 => BitVec.toInt (b (Shape.Idx.first h_S_))) h
  | 1 =>
    have h : StableHlo.after [opT, opI, opJ] X (Proc.devRef .tc main_c_0) = constantI S_ 32 0#32 := by
      after_results
    exact congrArg (fun b : IVec S_ 32 => BitVec.toInt (b (Shape.Idx.first h_S_))) h

/-- A row written over the last row of a table: the last row is it, … -/
theorem put_last (x : FVec Ideal S16384x6 .f32) (u : FVec Ideal S1x6 .f32) (o : Fin 6) :
    Host.dynamicUpdateSlice x u (![16383, 0] : Fin 2 → Int) updateFits_S16384x6_S1x6 (ix2 (16383 : Fin 16384) o) = u (ix2 0 o) := by
  rw [WordCmp.dynamicUpdateSlice_eq_update x u _ _ (![16383, 0] : Fin 2 → Nat) ⟨rfl, by decide⟩ (by decide)]
  unfold updateSlice
  rw [dif_pos (fun a => by
    match a with
    | 0 => exact ⟨le_rfl, by show 16383 < 16383 + 1; omega⟩
    | 1 => exact ⟨Nat.zero_le _, by show o.val < 0 + 6; omega⟩)]
  refine congrArg u (funext fun b => ?_)
  match b with
  | 0 => exact Subsingleton.elim (α := Fin 1) _ _
  | 1 => rfl

/-- … and the other rows are the table's. -/
theorem put_other (x : FVec Ideal S16384x6 .f32) (u : FVec Ideal S1x6 .f32) (r : Fin 16384) (hr : r.val < 16383) (o : Fin 6) :
    Host.dynamicUpdateSlice x u (![16383, 0] : Fin 2 → Int) updateFits_S16384x6_S1x6 (ix2 r o) = x (ix2 r o) := by
  rw [WordCmp.dynamicUpdateSlice_eq_update x u _ _ (![16383, 0] : Fin 2 → Nat) ⟨rfl, by decide⟩ (by decide)]
  unfold updateSlice
  rw [dif_neg]
  intro h
  have h0 : 16383 ≤ r.val := (h 0).1
  omega
end

/-! ## The result, row by row -/

section
variable (m : (ℓ : Loc nD τ sig) → Buf (Elt Ideal) ℓ) (d : Dev nD)

abbrev argAt (b : Ref sig .tc) : Buf (Elt Ideal) ((d.tc : Thread nD τ).loc b) := m ((d.tc : Thread nD τ).loc b)

theorem val1_v0 : val1 (valS m) d (Proc.devRef .tc main_v0) = pool m d := (opsA_v0 _).trans (valS_pool m d)
theorem val1_v1 : val1 (valS m) d (Proc.devRef .tc main_v1) = parts m d := (opsA_v1 _).trans (valS_sums m d)
theorem val1_v2 : val1 (valS m) d (Proc.devRef .tc main_v2) = shapeCast S1x100 (argAt m d main_arg4) shapeCasts_S100_S1x100 :=
  (opsA_v2 _).trans (by rw [valS_ne m d _ (by decide) (by decide)])
theorem val1_v3 : val1 (valS m) d (Proc.devRef .tc main_v3) = shapeCast S1x100 (argAt m d main_arg6) shapeCasts_S100_S1x100 :=
  (opsA_v3 _).trans (by rw [valS_ne m d _ (by decide) (by decide)])
theorem val1_v4 : val1 (valS m) d (Proc.devRef .tc main_v4) = shapeCast S6x1 (argAt m d main_arg8) shapeCasts_S6_S6x1 :=
  (opsA_v4 _).trans (by rw [valS_ne m d _ (by decide) (by decide)])

theorem val3_v1 : val3 (valS m) d (Proc.devRef .tc main_v1) = parts m d :=
  (opsB_v1 _).trans ((val2_ne (valS m) d main_v1 (by decide)).trans (val1_v1 m d))
theorem val3_v2 : val3 (valS m) d (Proc.devRef .tc main_v2) = shapeCast S1x100 (argAt m d main_arg4) shapeCasts_S100_S1x100 :=
  (opsB_v2 _).trans ((val2_ne (valS m) d main_v2 (by decide)).trans (val1_v2 m d))
theorem val3_v3 : val3 (valS m) d (Proc.devRef .tc main_v3) = shapeCast S1x100 (argAt m d main_arg6) shapeCasts_S100_S1x100 :=
  (opsB_v3 _).trans ((val2_ne (valS m) d main_v3 (by decide)).trans (val1_v3 m d))
theorem val3_v6 : val3 (valS m) d (Proc.devRef .tc main_v6) = extractStridedSlice S1x128 ![16383, 0] (pool m d) slices_S16384x128_S1x128_16383_0 :=
  (opsB_v6 _).trans (congrArg (extractStridedSlice S1x128 ![16383, 0] · slices_S16384x128_S1x128_16383_0)
    ((val2_ne (valS m) d main_v0 (by decide)).trans (val1_v0 m d)))
theorem val3_v7 : val3 (valS m) d (Proc.devRef .tc main_v7) = shapeCast S1x6 (argAt m d main_arg8) shapeCasts_S6_S1x6 :=
  (opsB_v7 _).trans (congrArg (shapeCast S1x6 · shapeCasts_S6_S1x6)
    ((val2_ne (valS m) d main_arg8 (by decide)).trans (val1_keep m d main_arg8 (by decide))))
theorem val3_v5 : val3 (valS m) d (Proc.devRef .tc main_v5) = out2 (ofVal (val1 (valS m))) d :=
  (opsB_v5 _).trans (val2_out (valS m) d)

theorem slice_last (x : FVec Ideal S16384x128 .f32) (q : Fin 128) :
    extractStridedSlice S1x128 ![16383, 0] x slices_S16384x128_S1x128_16383_0 (ix2 0 q) = x (ix2 (16383 : Fin 16384) q) := by
  pointwise []

theorem pool_row (r : Fin 16384) (q : Fin 128) : pool m d (ix2 r q) = rowAt (argAt m d main_arg0) (argAt m d main_arg2) r.val q := by
  have hw : wordFrom (argAt m d main_arg0) r.val 0 = argAt m d main_arg0 (at1 ⟨r.val, lt_of_lt_of_le r.isLt (by decide)⟩) :=
    wordFrom_eq (argAt m d main_arg0) (b := r.val) (k := 0) (lt_of_lt_of_le r.isLt (by decide))
  unfold rowAt
  rw [hw]
  refine congrArg (argAt m d main_arg2) (funext fun i => ?_)
  match i with
  | 0 => rfl
  | 1 => rfl

/-- The rows before the last. -/
theorem out_row (r : Fin 16384) (hr : r.val < 16383) (o : Fin 6) :
    val5 (valS m) d (Proc.devRef .tc main_v10) (ix2 r o)
      = mlp (fun q => rowAt (argAt m d main_arg0) (argAt m d main_arg2) r.val q) (argAt m d main_arg3) (argAt m d main_arg4) (argAt m d main_arg5)
          (argAt m d main_arg6) (argAt m d main_arg7) (argAt m d main_arg8) o := by
  unfold val5
  rw [opsC_v10, put_other _ _ _ hr]
  have h : transpose S16384x6 [1, 0] (val4 (valS m) d (Proc.devRef .tc main_v5)) transposes_S6x16384_S16384x6_1_0 (ix2 r o)
      = out2 (ofVal (val1 (valS m))) d (ix2 o r) := by
    pointwise []
    exact congrFun ((val4_ne (valS m) d main_v5 (by decide)).trans (val3_v5 m d)) _
  rw [h]
  unfold out2 ofVal
  rw [val1_v0, val1_v2, val1_v3, val1_v4, val1_keep m d main_arg3 (by decide), val1_keep m d main_arg5 (by decide), val1_keep m d main_arg7 (by decide)]
  refine (pay2_apply _ _ _ _ _ _ _ r o).trans ?_
  exact congrArg (fun p : Fin 128 → EReal => mlp p _ _ _ _ _ _ o) (funext fun q => pool_row m d r q)

theorem out_last (o : Fin 6) :
    val5 (valS m) d (Proc.devRef .tc main_v10) (ix2 (16383 : Fin 16384) o)
      = mlp (fun q => ((∑ p ∈ Finset.range 802816, rowAt (argAt m d main_arg0) (argAt m d main_arg2) (16384 + p) q)
            + rowAt (argAt m d main_arg0) (argAt m d main_arg2) 16383 q) * ((1 / 802817 : ℝ) : EReal)) (argAt m d main_arg3) (argAt m d main_arg4)
          (argAt m d main_arg5) (argAt m d main_arg6) (argAt m d main_arg7) (argAt m d main_arg8) o := by
  unfold val5
  rw [opsC_v10, put_last]
  refine (congrFun (val4_out (valS m) d) _).trans ?_
  unfold out3 ofVal
  rw [val3_v1, val3_v2, val3_v3, val3_v6, val3_v7, val3_keep m d main_arg3 (by decide), val3_keep m d main_arg5 (by decide), val3_keep m d main_arg7 (by decide)]
  refine (pay3_apply _ _ _ _ _ _ _ _ o).trans ?_
  refine congrArg (fun p : Fin 128 → EReal => mlp p _ _ _ _ _ _ o) (funext fun q => ?_)
  have h : extractStridedSlice S1x128 ![16383, 0] (pool m d) slices_S16384x128_S1x128_16383_0 (ix2 0 q)
      = rowAt (argAt m d main_arg0) (argAt m d main_arg2) 16383 q := by
    exact (slice_last (pool m d) q).trans (pool_row m d (16383 : Fin 16384) q)
  rw [h]
  exact congrArg (fun s : EReal => (s + _) * _) (partsVal_sum (argAt m d main_arg0) (argAt m d main_arg2) q)
end

/-! ## The precondition, read -/

instance drawnFacts : Cert.Pre_drawn.Facts where
  bcast_S_S819200 := by decide

section
variable {F : FTy → Type} [FloatOps F]
variable {x : IVec S819200 32} {o : IVec S16384 32} {e : FVec F S1000000x128 .f32} {w1 : FVec F S100x128 .f32} {b1 : FVec F S100 .f32}
  {w2 : FVec F S100x100 .f32} {b2 : FVec F S100 .f32} {w3 : FVec F S6x100 .f32} {b3 : FVec F S6 .f32}

theorem words_of_drawn (h : (Cert.Pre_drawn.fn (F := F) x o e w1 b1 w2 b2 w3 b3).1 = fun _ => 1#1) (j : S819200.Idx) : (x j : BitVec 32).toNat < 1000000 := by
  have q := congrFun h j
  simp only [Cert.Pre_drawn.fn, andi, cmpi, broadcastInDim, constantI] at q
  exact word_lt _ q

/-- Bag `i` starts at place `i`. -/
theorem offsets_of_drawn (h : (Cert.Pre_drawn.fn (F := F) x o e w1 b1 w2 b2 w3 b3).2 = fun _ => 1#1) (j : S16384.Idx) : o j = BitVec.ofNat 32 (j 0).val := by
  have q := congrFun h j
  simp only [Cert.Pre_drawn.fn, cmpi, IntOp.cmpi, ofBool_eq_one, beq_iff_eq] at q
  exact q
end

/-! ## The claims over the drawn arguments -/

theorem frame_kernelIdeal_drawn : Cert.quiescent_KernelIdeal_pre_drawn := fun m ρ hpre =>
  (θ_run Cert.KernelIdeal.defs _ _).mono (fun _ (h : End (F := Ideal) m _) => ⟨fun c => (h.1 c).2, h.2⟩)
    (run_end (F := Ideal) m ρ (fun d j => words_of_drawn (hpre d).1 j))

theorem frame_referenceIdeal_drawn : Cert.quiescent_ReferenceIdeal_pre_drawn := fun m ρ _ =>
  (θ_run Cert.ReferenceIdeal.defs _ _).mono (fun r h => ⟨fun c => (h c).2, sem_eq_zero_of_no_sems (by decide) r.2⟩)
    (Cert.ReferenceIdeal.Value.run (F := Ideal) m ρ)

section
variable (m : (ℓ : Loc nD τ sig) → Buf (Elt Ideal) ℓ) (d : Dev nD)

/-- What the kernel leaves is the reference's function of the arguments. -/
theorem out_eq (hx : ∀ j : S819200.Idx, (argAt m d main_arg0 j : BitVec 32).toNat < 1000000)
    (ho : ∀ j : S16384.Idx, argAt m d main_arg1 j = BitVec.ofNat 32 (j 0).val) :
    val5 (valS m) d (Proc.devRef .tc main_v10)
      = refMlp (argAt m d main_arg3) (argAt m d main_arg4) (argAt m d main_arg5) (argAt m d main_arg6) (argAt m d main_arg7) (argAt m d main_arg8)
          (refPool (argAt m d main_arg0) (argAt m d main_arg1) (argAt m d main_arg2)) := by
  funext i
  obtain ⟨r, o, rfl⟩ : ∃ (r : Fin 16384) (o : Fin 6), i = ix2 r o := ⟨i 0, i 1, (ix2_eta i).symm⟩
  refine Eq.trans ?_ (refMlp_apply _ _ _ _ _ _ _ r o).symm
  by_cases hr : r.val < 16383
  · refine (out_row m d r hr o).trans ?_
    exact congrArg (fun p : Fin 128 → EReal => mlp p _ _ _ _ _ _ o) (funext fun q => (refPool_single _ _ _ ho hx r q hr).symm)
  · obtain rfl : r = (16383 : Fin 16384) := Fin.ext (by have := r.isLt; show r.val = 16383; omega)
    refine (out_last m d o).trans ?_
    exact congrArg (fun p : Fin 128 → EReal => mlp p _ _ _ _ _ _ o) (funext fun q => (refPool_tail _ _ _ ho hx q).symm)
end

theorem algebraic : Cert.algebraic_KernelIdeal_ReferenceIdeal_pre_drawn := by
  intro m g m' g' hpre hm
  refine ⟨fun c => val5 (valS m) c (Proc.devRef .tc main_v10), ?_, ?_⟩
  · exact (θ_run Cert.KernelIdeal.defs _ _).mono (fun _ (h : End (F := Ideal) m _) c => h.1 c)
      (run_end (F := Ideal) m g (fun d j => words_of_drawn (hpre d).1 j))
  · refine (θ_run Cert.ReferenceIdeal.defs _ _).mono (fun r h c => ⟨(h c).1.trans ?_, (h c).2⟩)
      (Cert.ReferenceIdeal.Value.run (F := Ideal) m' g')
    obtain ⟨h0, h1, h2, h3, h4, h5, h6, h7, h8⟩ := hm c
    rw [res_eq, h0, h1, h2, h3, h4, h5, h6, h7, h8]
    exact (out_eq m c (fun j => words_of_drawn (hpre c).1 j) (fun j => offsets_of_drawn (hpre c).2 j)).symm

end Cert.Proof.Bag

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Value
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_in_range.Gen.facts, Bag.drawnFacts,
    Bag.frame_kernel, Bag.frame_kernelIdeal, Bag.frame_kernelIdeal_drawn, Bag.frame_referenceIdeal, Bag.frame_referenceIdeal_drawn,
    Bag.preserves, Bag.algebraic⟩

end Cert.Proof

end
